-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S512x512 : Shape := ⟨2, ![512, 512]⟩
abbrev S8192 : Shape := ⟨1, ![8192]⟩
abbrev S256 : Shape := ⟨1, ![256]⟩
abbrev S256x128 : Shape := ⟨2, ![256, 128]⟩
abbrev S512 : Shape := ⟨1, ![512]⟩
abbrev S512x256 : Shape := ⟨2, ![512, 256]⟩
abbrev S1536x64 : Shape := ⟨2, ![1536, 64]⟩
abbrev S1536x512 : Shape := ⟨2, ![1536, 512]⟩
abbrev S1536 : Shape := ⟨1, ![1536]⟩
abbrev S128x4x64 : Shape := ⟨3, ![128, 4, 64]⟩
abbrev S128x64 : Shape := ⟨2, ![128, 64]⟩
abbrev S_ : Shape := ⟨0, ![]⟩

class Facts : Prop where
  reducesTo_S256_S_d0 : S256.ReducesTo [0] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S512x512 .f32) (main_arg1 : FVec F S8192 .f32) (main_arg2 : IVec S8192 32) (main_arg3 : IVec S256 32) (main_arg4 : FVec F S256x128 .f32) (main_arg5 : FVec F S256x128 .f32) (main_arg6 : FVec F S512x512 .f32) (main_arg7 : FVec F S512 .f32) (main_arg8 : FVec F S512x256 .f32) (main_arg9 : FVec F S256 .f32) (main_arg10 : FVec F S1536x64 .f32) (main_arg11 : FVec F S1536x512 .f32) (main_arg12 : FVec F S1536 .f32) (main_arg13 : FVec F S1536 .f32) (main_arg14 : FVec F S128x4x64 .f32) (main_arg15 : FVec F S128x64 .f32) : IVec S_ 1 :=
  let main_v0 : IVec S256 32 := iotaInDim S256 32 0
  let main_v1 : IVec S256 1 := cmpi .eq main_arg3 main_v0
  let main_c : IVec S_ 1 := constantI S_ 1 1#1
  let main_v2 : IVec S_ 1 := (fun x v => Host.reduce IntOp.andi x v reducesTo_S256_S_d0 h_S_) main_v1 main_c
  let main_c_0 : IVec S_ 32 := constantI S_ 32 0#32
  let main_v3 : IVec S8192 32 := broadcastInDim S8192 ![] bcast_S_S8192 main_c_0
  let main_v4 : IVec S8192 1 := cmpi .sge main_arg2 main_v3
  let main_c_1 : IVec S_ 1 := constantI S_ 1 1#1
  let main_v5 : IVec S_ 1 := (fun x v => Host.reduce IntOp.andi x v reducesTo_S8192_S_d0 h_S_) main_v4 main_c_1
  let main_v6 : IVec S_ 1 := andi main_v2 main_v5
  let main_c_2 : IVec S_ 32 := constantI S_ 32 128#32
  let main_v7 : IVec S8192 32 := broadcastInDim S8192 ![] bcast_S_S8192 main_c_2
  let main_v8 : IVec S8192 1 := cmpi .slt main_arg2 main_v7
  let main_c_3 : IVec S_ 1 := constantI S_ 1 1#1
  let main_v9 : IVec S_ 1 := (fun x v => Host.reduce IntOp.andi x v reducesTo_S8192_S_d0 h_S_) main_v8 main_c_3
  let main_v10 : IVec S_ 1 := andi main_v6 main_v9
  main_v10
-- ==== Kernel.lean ====
abbrev S512x512 : Shape := ⟨2, ![512, 512]⟩
abbrev S8192 : Shape := ⟨1, ![8192]⟩
abbrev S256 : Shape := ⟨1, ![256]⟩
abbrev S256x128 : Shape := ⟨2, ![256, 128]⟩
abbrev S512 : Shape := ⟨1, ![512]⟩
abbrev S512x256 : Shape := ⟨2, ![512, 256]⟩
abbrev S1536x64 : Shape := ⟨2, ![1536, 64]⟩
abbrev S1536x512 : Shape := ⟨2, ![1536, 512]⟩
abbrev S1536 : Shape := ⟨1, ![1536]⟩
abbrev S128x4x64 : Shape := ⟨3, ![128, 4, 64]⟩
abbrev S128x64 : Shape := ⟨2, ![128, 64]⟩
abbrev S32x256 : Shape := ⟨2, ![32, 256]⟩
abbrev S2x128 : Shape := ⟨2, ![2, 128]⟩
abbrev S128x256 : Shape := ⟨2, ![128, 256]⟩
abbrev S1x1 : Shape := ⟨2, ![1, 1]⟩
abbrev S256x512 : Shape := ⟨2, ![256, 512]⟩
abbrev S2048x512 : Shape := ⟨2, ![2048, 512]⟩
abbrev S128x512 : Shape := ⟨2, ![128, 512]⟩
abbrev S128x1024 : Shape := ⟨2, ![128, 1024]⟩
abbrev S128x1344 : Shape := ⟨2, ![128, 1344]⟩
abbrev S256x32 : Shape := ⟨2, ![256, 32]⟩
abbrev S256x2048 : Shape := ⟨2, ![256, 2048]⟩
abbrev S1x512 : Shape := ⟨2, ![1, 512]⟩
abbrev S256x1536 : Shape := ⟨2, ![256, 1536]⟩
abbrev S1x1536 : Shape := ⟨2, ![1, 1536]⟩
abbrev S256x256 : Shape := ⟨2, ![256, 256]⟩
abbrev S1x128 : Shape := ⟨2, ![1, 128]⟩
abbrev S256x1 : Shape := ⟨2, ![256, 1]⟩
abbrev S256x1344 : Shape := ⟨2, ![256, 1344]⟩
abbrev S256x320 : Shape := ⟨2, ![256, 320]⟩
abbrev S1x256x1 : Shape := ⟨3, ![1, 256, 1]⟩
abbrev S1 : Shape := ⟨1, ![1]⟩
abbrev S1x1x1 : Shape := ⟨3, ![1, 1, 1]⟩
abbrev S256x64 : Shape := ⟨2, ![256, 64]⟩
abbrev S256x1024 : Shape := ⟨2, ![256, 1024]⟩

abbrev nBuf : Space → Nat
  | .hbm => 23
  | .vmem => 20
  | .smem => 1
  | _ => 0

abbrev bufTy : (tb : Table) → Fin (tcTables nBuf tb) → BufTy
  | .hbm, ⟨0, _⟩ => ⟨S512x512, .f32⟩
  | .hbm, ⟨1, _⟩ => ⟨S8192, .f32⟩
  | .hbm, ⟨2, _⟩ => ⟨S8192, .i32⟩
  | .hbm, ⟨3, _⟩ => ⟨S256, .i32⟩
  | .hbm, ⟨4, _⟩ => ⟨S256x128, .f32⟩
  | .hbm, ⟨5, _⟩ => ⟨S256x128, .f32⟩
  | .hbm, ⟨6, _⟩ => ⟨S512x512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S1536x64, .f32⟩
  | .hbm, ⟨11, _⟩ => ⟨S1536x512, .f32⟩
  | .hbm, ⟨12, _⟩ => ⟨S1536, .f32⟩
  | .hbm, ⟨13, _⟩ => ⟨S1536, .f32⟩
  | .hbm, ⟨14, _⟩ => ⟨S128x4x64, .f32⟩
  | .hbm, ⟨15, _⟩ => ⟨S128x64, .f32⟩
  | .hbm, ⟨16, _⟩ => ⟨S32x256, .f32⟩
  | .hbm, ⟨17, _⟩ => ⟨S32x256, .i32⟩
  | .hbm, ⟨18, _⟩ => ⟨S2x128, .f32⟩
  | .hbm, ⟨19, _⟩ => ⟨S128x256, .f32⟩
  | .hbm, ⟨20, _⟩ => ⟨S512x512, .f32⟩
  | .hbm, ⟨21, _⟩ => ⟨S1x1, .f32⟩
  | .hbm, ⟨22, _⟩ => ⟨S256x128, .f32⟩
  | .local _ .vmem, ⟨0, _⟩ => ⟨S512x512, .f32⟩
  | .local _ .vmem, ⟨1, _⟩ => ⟨S32x256, .f32⟩
  | .local _ .vmem, ⟨2, _⟩ => ⟨S32x256, .i32⟩
  | .local _ .vmem, ⟨3, _⟩ => ⟨S256x128, .f32⟩
  | .local _ .vmem, ⟨4, _⟩ => ⟨S256x128, .f32⟩
  | .local _ .vmem, ⟨5, _⟩ => ⟨S512x512, .f32⟩
  | .local _ .vmem, ⟨6, _⟩ => ⟨S512, .f32⟩
  | .local _ .vmem, ⟨7, _⟩ => ⟨S512x256, .f32⟩
  | .local _ .vmem, ⟨8, _⟩ => ⟨S2x128, .f32⟩
  | .local _ .vmem, ⟨9, _⟩ => ⟨S1536x64, .f32⟩
  | .local _ .vmem, ⟨10, _⟩ => ⟨S1536x512, .f32⟩
  | .local _ .vmem, ⟨11, _⟩ => ⟨S1536, .f32⟩
  | .local _ .vmem, ⟨12, _⟩ => ⟨S1536, .f32⟩
  | .local _ .vmem, ⟨13, _⟩ => ⟨S128x256, .f32⟩
  | .local _ .vmem, ⟨14, _⟩ => ⟨S128x64, .f32⟩
  | .local _ .vmem, ⟨15, _⟩ => ⟨S512x512, .f32⟩
  | .local _ .vmem, ⟨16, _⟩ => ⟨S256x128, .f32⟩
  | .local _ .vmem, ⟨17, _⟩ => ⟨S256x512, .f32⟩
  | .local _ .vmem, ⟨18, _⟩ => ⟨S2048x512, .f32⟩
  | .local _ .vmem, ⟨19, _⟩ => ⟨S256x512, .f32⟩
  | .local _ .smem, ⟨0, _⟩ => ⟨S1x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_v4_2 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg17_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_stg16_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c31_i32 : BitVec 32 := 31#32
  let v154 : BitVec 32 := Scalar.addi c1_i32 c31_i32
  let c1_i32_64 : BitVec 32 := 1#32
  ⟨c1_i32, v154, c1_i32_64⟩
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S512x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .smem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== ReferenceIdeal.lean ====
abbrev S512x512 : Shape := ⟨2, ![512, 512]⟩
abbrev S8192 : Shape := ⟨1, ![8192]⟩
abbrev S256 : Shape := ⟨1, ![256]⟩
abbrev S256x128 : Shape := ⟨2, ![256, 128]⟩
abbrev S512 : Shape := ⟨1, ![512]⟩
abbrev S512x256 : Shape := ⟨2, ![512, 256]⟩
abbrev S1536x64 : Shape := ⟨2, ![1536, 64]⟩
abbrev S1536x512 : Shape := ⟨2, ![1536, 512]⟩
abbrev S1536 : Shape := ⟨1, ![1536]⟩
abbrev S128x4x64 : Shape := ⟨3, ![128, 4, 64]⟩
abbrev S128x64 : Shape := ⟨2, ![128, 64]⟩
abbrev S_ : Shape := ⟨0, ![]⟩
abbrev S256x1 : Shape := ⟨2, ![256, 1]⟩
abbrev S256x512 : Shape := ⟨2, ![256, 512]⟩
abbrev S32x256 : Shape := ⟨2, ![32, 256]⟩
abbrev S1x256 : Shape := ⟨2, ![1, 256]⟩
abbrev S1x512 : Shape := ⟨2, ![1, 512]⟩
abbrev S256x256 : Shape := ⟨2, ![256, 256]⟩
abbrev S256x2 : Shape := ⟨2, ![256, 2]⟩
abbrev S256x4 : Shape := ⟨2, ![256, 4]⟩
abbrev S256x1x4 : Shape := ⟨3, ![256, 1, 4]⟩
abbrev S256x4x64 : Shape := ⟨3, ![256, 4, 64]⟩
abbrev S256x64 : Shape := ⟨2, ![256, 64]⟩
abbrev S256x1x64 : Shape := ⟨3, ![256, 1, 64]⟩
abbrev S64x1536 : Shape := ⟨2, ![64, 1536]⟩
abbrev S256x1536 : Shape := ⟨2, ![256, 1536]⟩
abbrev S1x1536 : Shape := ⟨2, ![1, 1536]⟩
abbrev S512x1536 : Shape := ⟨2, ![512, 1536]⟩
abbrev S1x1 : Shape := ⟨2, ![1, 1]⟩

abbrev nBuf : Space → Nat
  | .hbm => 265
  | .vmem => 0
  | .smem => 0
  | _ => 0

abbrev hbmTy0_0 (i : Nat) : BufTy := match i % 128 with
  | 0 => ⟨S512x512, .f32⟩
  | 1 => ⟨S8192, .f32⟩
  | 2 => ⟨S8192, .i32⟩
  | 3 => ⟨S256, .i32⟩
  | 4 => ⟨S256x128, .f32⟩
  | 5 => ⟨S256x128, .f32⟩
  | 6 => ⟨S512x512, .f32⟩
  | 7 => ⟨S512, .f32⟩
  | 8 => ⟨S512x256, .f32⟩
  | 9 => ⟨S256, .f32⟩
  | 10 => ⟨S1536x64, .f32⟩
  | 11 => ⟨S1536x512, .f32⟩
  | 12 => ⟨S1536, .f32⟩
  | 13 => ⟨S1536, .f32⟩
  | 14 => ⟨S128x4x64, .f32⟩
  | 15 => ⟨S128x64, .f32⟩
  | 16 => ⟨S_, .i32⟩
  | 17 => ⟨S256, .i32⟩
  | 18 => ⟨S256, .i1⟩
  | 19 => ⟨S_, .i32⟩
  | 20 => ⟨S256, .i32⟩
  | 21 => ⟨S256, .i32⟩
  | 22 => ⟨S256, .i32⟩
  | 23 => ⟨S256x1, .i32⟩
  | 24 => ⟨S256x512, .f32⟩
  | 25 => ⟨S32x256, .f32⟩
  | 26 => ⟨S32x256, .i32⟩
  | 27 => ⟨S256, .i32⟩
  | 28 => ⟨S_, .i32⟩
  | 29 => ⟨S_, .f32⟩
  | 30 => ⟨S_, .i32⟩
  | 31 => ⟨S32x256, .f32⟩
  | 32 => ⟨S32x256, .i32⟩
  | 33 => ⟨S512x512, .f32⟩
  | 34 => ⟨S512, .f32⟩
  | 35 => ⟨S512x256, .f32⟩
  | 36 => ⟨S256, .f32⟩
  | 37 => ⟨S256, .i32⟩
  | 38 => ⟨S128x4x64, .f32⟩
  | 39 => ⟨S128x64, .f32⟩
  | 40 => ⟨S1536x64, .f32⟩
  | 41 => ⟨S1536, .f32⟩
  | 42 => ⟨S1536x512, .f32⟩
  | 43 => ⟨S1536, .f32⟩
  | 44 => ⟨S_, .i32⟩
  | 45 => ⟨S_, .i32⟩
  | 46 => ⟨S256x512, .f32⟩
  | 47 => ⟨S_, .f32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S1x256, .f32⟩
  | 67 => ⟨S256, .f32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S1x256, .i32⟩
  | 83 => ⟨S256, .i32⟩
  | 84 => ⟨S256x512, .f32⟩
  | 85 => ⟨S1x512, .f32⟩
  | 86 => ⟨S256x512, .f32⟩
  | 87 => ⟨S256x512, .f32⟩
  | 88 => ⟨S_, .f32⟩
  | 89 => ⟨S256x512, .f32⟩
  | 90 => ⟨S256x512, .f32⟩
  | 91 => ⟨S256x256, .f32⟩
  | 92 => ⟨S1x256, .f32⟩
  | 93 => ⟨S256x256, .f32⟩
  | 94 => ⟨S256x256, .f32⟩
  | 95 => ⟨S256x128, .f32⟩
  | 96 => ⟨S256x128, .f32⟩
  | 97 => ⟨S_, .i32⟩
  | 98 => ⟨S256, .i32⟩
  | 99 => ⟨S256, .i1⟩
  | 100 => ⟨S_, .i32⟩
  | 101 => ⟨S256, .i32⟩
  | 102 => ⟨S256, .i32⟩
  | 103 => ⟨S256, .i32⟩
  | 104 => ⟨S_, .i32⟩
  | 105 => ⟨S256, .i32⟩
  | 106 => ⟨S256, .i1⟩
  | 107 => ⟨S_, .i32⟩
  | 108 => ⟨S256, .i32⟩
  | 109 => ⟨S256, .i32⟩
  | 110 => ⟨S256, .i32⟩
  | 111 => ⟨S256x1, .i32⟩
  | 112 => ⟨S256x1, .i32⟩
  | 113 => ⟨S256x2, .i32⟩
  | 114 => ⟨S256, .f32⟩
  | 115 => ⟨S_, .i32⟩
  | 116 => ⟨S256, .i32⟩
  | 117 => ⟨S256, .i1⟩
  | 118 => ⟨S_, .i32⟩
  | 119 => ⟨S256, .i32⟩
  | 120 => ⟨S256, .i32⟩
  | 121 => ⟨S256, .i32⟩
  | 122 => ⟨S_, .i32⟩
  | 123 => ⟨S256, .i32⟩
  | 124 => ⟨S256, .i1⟩
  | 125 => ⟨S_, .i32⟩
  | 126 => ⟨S256, .i32⟩
  | 127 => ⟨S256, .i32⟩
  | _ => ⟨S512x512, .f32⟩

abbrev hbmTy0_1 (i : Nat) : BufTy := match i % 128 with
  | 0 => ⟨S256, .i32⟩
  | 1 => ⟨S256x1, .i32⟩
  | 2 => ⟨S256x1, .i32⟩
  | 3 => ⟨S256x2, .i32⟩
  | 4 => ⟨S256, .f32⟩
  | 5 => ⟨S_, .f32⟩
  | 6 => ⟨S256, .f32⟩
  | 7 => ⟨S256, .f32⟩
  | 8 => ⟨S256, .f32⟩
  | 9 => ⟨S256, .f32⟩
  | 10 => ⟨S256, .f32⟩
  | 11 => ⟨S256, .f32⟩
  | 12 => ⟨S256, .f32⟩
  | 13 => ⟨S_, .f32⟩
  | 14 => ⟨S_, .f32⟩
  | 15 => ⟨S_, .f32⟩
  | 16 => ⟨S_, .f32⟩
  | 17 => ⟨S_, .f32⟩
  | 18 => ⟨S256x1, .f32⟩
  | 19 => ⟨S256x1, .f32⟩
  | 20 => ⟨S256x1, .f32⟩
  | 21 => ⟨S256x1, .f32⟩
  | 22 => ⟨S256x4, .f32⟩
  | 23 => ⟨S256x1x4, .f32⟩
  | 24 => ⟨S_, .i32⟩
  | 25 => ⟨S256, .i32⟩
  | 26 => ⟨S256, .i1⟩
  | 27 => ⟨S_, .i32⟩
  | 28 => ⟨S256, .i32⟩
  | 29 => ⟨S256, .i32⟩
  | 30 => ⟨S256, .i32⟩
  | 31 => ⟨S256x1, .i32⟩
  | 32 => ⟨S256x4x64, .f32⟩
  | 33 => ⟨S_, .i32⟩
  | 34 => ⟨S256, .i32⟩
  | 35 => ⟨S256, .i1⟩
  | 36 => ⟨S_, .i32⟩
  | 37 => ⟨S256, .i32⟩
  | 38 => ⟨S256, .i32⟩
  | 39 => ⟨S256, .i32⟩
  | 40 => ⟨S256x1, .i32⟩
  | 41 => ⟨S256x64, .f32⟩
  | 42 => ⟨S256x1x64, .f32⟩
  | 43 => ⟨S256x64, .f32⟩
  | 44 => ⟨S256x64, .f32⟩
  | 45 => ⟨S_, .f32⟩
  | 46 => ⟨S256x64, .f32⟩
  | 47 => ⟨S256x64, .f32⟩
  | 48 => ⟨S64x1536, .f32⟩
  | 49 => ⟨S256x1536, .f32⟩
  | 50 => ⟨S1x1536, .f32⟩
  | 51 => ⟨S256x1536, .f32⟩
  | 52 => ⟨S256x1536, .f32⟩
  | 53 => ⟨S512x1536, .f32⟩
  | 54 => ⟨S256x1536, .f32⟩
  | 55 => ⟨S1x1536, .f32⟩
  | 56 => ⟨S256x1536, .f32⟩
  | 57 => ⟨S256x1536, .f32⟩
  | 58 => ⟨S256x512, .f32⟩
  | 59 => ⟨S256x512, .f32⟩
  | 60 => ⟨S256x512, .f32⟩
  | 61 => ⟨S256x512, .f32⟩
  | 62 => ⟨S256x512, .f32⟩
  | 63 => ⟨S256x512, .f32⟩
  | 64 => ⟨S256x512, .f32⟩
  | 65 => ⟨S256x512, .f32⟩
  | 66 => ⟨S256x512, .f32⟩
  | 67 => ⟨S_, .f32⟩
  | 68 => ⟨S256x512, .f32⟩
  | 69 => ⟨S256x512, .f32⟩
  | 70 => ⟨S_, .f32⟩
  | 71 => ⟨S256x512, .f32⟩
  | 72 => ⟨S256x512, .f32⟩
  | 73 => ⟨S256x512, .f32⟩
  | 74 => ⟨S256x512, .f32⟩
  | 75 => ⟨S256x512, .f32⟩
  | 76 => ⟨S_, .f32⟩
  | 77 => ⟨S256x512, .f32⟩
  | 78 => ⟨S256x512, .f32⟩
  | 79 => ⟨S_, .f32⟩
  | 80 => ⟨S256x512, .f32⟩
  | 81 => ⟨S256x512, .f32⟩
  | 82 => ⟨S256x512, .f32⟩
  | 83 => ⟨S256x512, .f32⟩
  | 84 => ⟨S256x512, .f32⟩
  | 85 => ⟨S_, .f32⟩
  | 86 => ⟨S256x512, .f32⟩
  | 87 => ⟨S256x512, .f32⟩
  | 88 => ⟨S256x512, .f32⟩
  | 89 => ⟨S256x512, .f32⟩
  | 90 => ⟨S256x512, .f32⟩
  | 91 => ⟨S_, .i32⟩
  | 92 => ⟨S_, .i32⟩
  | 93 => ⟨S_, .i32⟩
  | 94 => ⟨S256, .i32⟩
  | 95 => ⟨S256, .i1⟩
  | 96 => ⟨S_, .i32⟩
  | 97 => ⟨S256, .i32⟩
  | 98 => ⟨S256, .i32⟩
  | 99 => ⟨S256, .i32⟩
  | 100 => ⟨S256x1, .i32⟩
  | 101 => ⟨S512x512, .f32⟩
  | 102 => ⟨S_, .i32⟩
  | 103 => ⟨S256, .i32⟩
  | 104 => ⟨S256, .i1⟩
  | 105 => ⟨S_, .i32⟩
  | 106 => ⟨S256, .i32⟩
  | 107 => ⟨S256, .i32⟩
  | 108 => ⟨S256, .i32⟩
  | 109 => ⟨S256x1, .i32⟩
  | 110 => ⟨S256x512, .f32⟩
  | 111 => ⟨S256x512, .f32⟩
  | 112 => ⟨S1x512, .f32⟩
  | 113 => ⟨S256x512, .f32⟩
  | 114 => ⟨S256x512, .f32⟩
  | 115 => ⟨S_, .f32⟩
  | 116 => ⟨S256x512, .f32⟩
  | 117 => ⟨S256x512, .f32⟩
  | 118 => ⟨S256x256, .f32⟩
  | 119 => ⟨S1x256, .f32⟩
  | 120 => ⟨S256x256, .f32⟩
  | 121 => ⟨S256x256, .f32⟩
  | 122 => ⟨S256x128, .f32⟩
  | 123 => ⟨S256x128, .f32⟩
  | 124 => ⟨S_, .f32⟩
  | 125 => ⟨S256x128, .f32⟩
  | 126 => ⟨S256x128, .f32⟩
  | 127 => ⟨S256x128, .f32⟩
  | _ => ⟨S512x512, .f32⟩

abbrev hbmTy0_2 (i : Nat) : BufTy := match i % 128 with
  | 0 => ⟨S256x128, .f32⟩
  | 1 => ⟨S256x128, .f32⟩
  | 2 => ⟨S256x128, .f32⟩
  | 3 => ⟨S256x128, .f32⟩
  | 4 => ⟨S256x128, .f32⟩
  | 5 => ⟨S_, .f32⟩
  | 6 => ⟨S256x128, .f32⟩
  | 7 => ⟨S256x128, .f32⟩
  | 8 => ⟨S1x1, .f32⟩
  | _ => ⟨S512x512, .f32⟩

abbrev hbmTy (i : Nat) : BufTy := match i / 128 with
  | 0 => hbmTy0_0 i
  | 1 => hbmTy0_1 i
  | 2 => hbmTy0_2 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_cst : Ref sig .tc := ⟨.hbm, 29, rfl⟩
abbrev main_c_2 : Ref sig .tc := ⟨.hbm, 30, rfl⟩
abbrev main_v10_0 : Ref sig .tc := ⟨.hbm, 31, rfl⟩
abbrev main_v10_1 : Ref sig .tc := ⟨.hbm, 32, rfl⟩
abbrev main_v10_2 : Ref sig .tc := ⟨.hbm, 33, rfl⟩
abbrev main_v10_3 : Ref sig .tc := ⟨.hbm, 34, rfl⟩
abbrev main_v10_4 : Ref sig .tc := ⟨.hbm, 35, rfl⟩
abbrev main_v10_5 : Ref sig .tc := ⟨.hbm, 36, rfl⟩
abbrev main_v10_6 : Ref sig .tc := ⟨.hbm, 37, rfl⟩
abbrev main_v10_7 : Ref sig .tc := ⟨.hbm, 38, rfl⟩
abbrev main_v10_8 : Ref sig .tc := ⟨.hbm, 39, rfl⟩
abbrev main_v10_9 : Ref sig .tc := ⟨.hbm, 40, rfl⟩
abbrev main_v10_10 : Ref sig .tc := ⟨.hbm, 41, rfl⟩
abbrev main_v10_11 : Ref sig .tc := ⟨.hbm, 42, rfl⟩
abbrev main_v10_12 : Ref sig .tc := ⟨.hbm, 43, rfl⟩
abbrev main_v10_13 : Ref sig .tc := ⟨.hbm, 44, rfl⟩
abbrev main_v10_14 : Ref sig .tc := ⟨.hbm, 45, rfl⟩
abbrev main_v10_15 : Ref sig .tc := ⟨.hbm, 46, rfl⟩
abbrev main_v10_16 : Ref sig .tc := ⟨.hbm, 47, rfl⟩
abbrev main_while0c_c_25 : Ref sig .tc := ⟨.hbm, 48, rfl⟩
abbrev main_while0c_v47 : Ref sig .tc := ⟨.hbm, 49, rfl⟩
abbrev main_while0b_c_25 : Ref sig .tc := ⟨.hbm, 50, rfl⟩
abbrev main_while0b_v47 : Ref sig .tc := ⟨.hbm, 51, rfl⟩
abbrev main_while0b_v48 : Ref sig .tc := ⟨.hbm, 52, rfl⟩
abbrev main_while0b_c_26 : Ref sig .tc := ⟨.hbm, 53, rfl⟩
abbrev main_while0b_v49 : Ref sig .tc := ⟨.hbm, 54, rfl⟩
abbrev main_while0b_c_27 : Ref sig .tc := ⟨.hbm, 55, rfl⟩
abbrev main_while0b_v50 : Ref sig .tc := ⟨.hbm, 56, rfl⟩
abbrev main_while0b_v51 : Ref sig .tc := ⟨.hbm, 57, rfl⟩
abbrev main_while0b_c_28 : Ref sig .tc := ⟨.hbm, 58, rfl⟩
abbrev main_while0b_c_29 : Ref sig .tc := ⟨.hbm, 59, rfl⟩
abbrev main_while0b_v52 : Ref sig .tc := ⟨.hbm, 60, rfl⟩
abbrev main_while0b_c_30 : Ref sig .tc := ⟨.hbm, 61, rfl⟩
abbrev main_while0b_c_31 : Ref sig .tc := ⟨.hbm, 62, rfl⟩
abbrev main_while0b_v53 : Ref sig .tc := ⟨.hbm, 63, rfl⟩
abbrev main_while0b_c_32 : Ref sig .tc := ⟨.hbm, 64, rfl⟩
abbrev main_while0b_v54 : Ref sig .tc := ⟨.hbm, 65, rfl⟩
abbrev main_while0b_v55 : Ref sig .tc := ⟨.hbm, 66, rfl⟩
abbrev main_while0b_v56 : Ref sig .tc := ⟨.hbm, 67, rfl⟩
abbrev main_while0b_v57 : Ref sig .tc := ⟨.hbm, 68, rfl⟩
abbrev main_while0b_c_33 : Ref sig .tc := ⟨.hbm, 69, rfl⟩
abbrev main_while0b_v58 : Ref sig .tc := ⟨.hbm, 70, rfl⟩
abbrev main_while0b_c_34 : Ref sig .tc := ⟨.hbm, 71, rfl⟩
abbrev main_while0b_v59 : Ref sig .tc := ⟨.hbm, 72, rfl⟩
abbrev main_while0b_v60 : Ref sig .tc := ⟨.hbm, 73, rfl⟩
abbrev main_while0b_c_35 : Ref sig .tc := ⟨.hbm, 74, rfl⟩
abbrev main_while0b_c_36 : Ref sig .tc := ⟨.hbm, 75, rfl⟩
abbrev main_while0b_v61 : Ref sig .tc := ⟨.hbm, 76, rfl⟩
abbrev main_while0b_c_37 : Ref sig .tc := ⟨.hbm, 77, rfl⟩
abbrev main_while0b_c_38 : Ref sig .tc := ⟨.hbm, 78, rfl⟩
abbrev main_while0b_v62 : Ref sig .tc := ⟨.hbm, 79, rfl⟩
abbrev main_while0b_c_39 : Ref sig .tc := ⟨.hbm, 80, rfl⟩
abbrev main_while0b_v63 : Ref sig .tc := ⟨.hbm, 81, rfl⟩
abbrev main_while0b_v64 : Ref sig .tc := ⟨.hbm, 82, rfl⟩
abbrev main_while0b_v65 : Ref sig .tc := ⟨.hbm, 83, rfl⟩
abbrev main_while0b_v66 : Ref sig .tc := ⟨.hbm, 84, rfl⟩
abbrev main_while0b_v67 : Ref sig .tc := ⟨.hbm, 85, rfl⟩
abbrev main_while0b_v68 : Ref sig .tc := ⟨.hbm, 86, rfl⟩
abbrev main_while0b_v69 : Ref sig .tc := ⟨.hbm, 87, rfl⟩
abbrev main_while0b_call0_cst : Ref sig .tc := ⟨.hbm, 88, rfl⟩
abbrev main_while0b_call0_v0 : Ref sig .tc := ⟨.hbm, 89, rfl⟩
abbrev main_while0b_v70 : Ref sig .tc := ⟨.hbm, 90, rfl⟩
abbrev main_while0b_v71 : Ref sig .tc := ⟨.hbm, 91, rfl⟩
abbrev main_while0b_v72 : Ref sig .tc := ⟨.hbm, 92, rfl⟩
abbrev main_while0b_v73 : Ref sig .tc := ⟨.hbm, 93, rfl⟩
abbrev main_while0b_v74 : Ref sig .tc := ⟨.hbm, 94, rfl⟩
abbrev main_while0b_v75 : Ref sig .tc := ⟨.hbm, 95, rfl⟩
abbrev main_while0b_v76 : Ref sig .tc := ⟨.hbm, 96, rfl⟩
abbrev main_while0b_c_40 : Ref sig .tc := ⟨.hbm, 97, rfl⟩
abbrev main_while0b_v77 : Ref sig .tc := ⟨.hbm, 98, rfl⟩
abbrev main_while0b_v78 : Ref sig .tc := ⟨.hbm, 99, rfl⟩
abbrev main_while0b_c_41 : Ref sig .tc := ⟨.hbm, 100, rfl⟩
abbrev main_while0b_v79 : Ref sig .tc := ⟨.hbm, 101, rfl⟩
abbrev main_while0b_v80 : Ref sig .tc := ⟨.hbm, 102, rfl⟩
abbrev main_while0b_v81 : Ref sig .tc := ⟨.hbm, 103, rfl⟩
abbrev main_while0b_c_42 : Ref sig .tc := ⟨.hbm, 104, rfl⟩
abbrev main_while0b_v82 : Ref sig .tc := ⟨.hbm, 105, rfl⟩
abbrev main_while0b_v83 : Ref sig .tc := ⟨.hbm, 106, rfl⟩
abbrev main_while0b_c_43 : Ref sig .tc := ⟨.hbm, 107, rfl⟩
abbrev main_while0b_v84 : Ref sig .tc := ⟨.hbm, 108, rfl⟩
abbrev main_while0b_v85 : Ref sig .tc := ⟨.hbm, 109, rfl⟩
abbrev main_while0b_v86 : Ref sig .tc := ⟨.hbm, 110, rfl⟩
abbrev main_while0b_v87 : Ref sig .tc := ⟨.hbm, 111, rfl⟩
abbrev main_while0b_v88 : Ref sig .tc := ⟨.hbm, 112, rfl⟩
abbrev main_while0b_v89 : Ref sig .tc := ⟨.hbm, 113, rfl⟩
abbrev main_while0b_v90 : Ref sig .tc := ⟨.hbm, 114, rfl⟩
abbrev main_while0b_c_44 : Ref sig .tc := ⟨.hbm, 115, rfl⟩
abbrev main_while0b_v91 : Ref sig .tc := ⟨.hbm, 116, rfl⟩
abbrev main_while0b_v92 : Ref sig .tc := ⟨.hbm, 117, rfl⟩
abbrev main_while0b_c_45 : Ref sig .tc := ⟨.hbm, 118, rfl⟩
abbrev main_while0b_v93 : Ref sig .tc := ⟨.hbm, 119, rfl⟩
abbrev main_while0b_v94 : Ref sig .tc := ⟨.hbm, 120, rfl⟩
abbrev main_while0b_v95 : Ref sig .tc := ⟨.hbm, 121, rfl⟩
abbrev main_while0b_c_46 : Ref sig .tc := ⟨.hbm, 122, rfl⟩
abbrev main_while0b_v96 : Ref sig .tc := ⟨.hbm, 123, rfl⟩
abbrev main_while0b_v97 : Ref sig .tc := ⟨.hbm, 124, rfl⟩
abbrev main_while0b_c_47 : Ref sig .tc := ⟨.hbm, 125, rfl⟩
abbrev main_while0b_v98 : Ref sig .tc := ⟨.hbm, 126, rfl⟩
abbrev main_while0b_v99 : Ref sig .tc := ⟨.hbm, 127, rfl⟩
abbrev main_while0b_v100 : Ref sig .tc := ⟨.hbm, 128, rfl⟩
abbrev main_while0b_v101 : Ref sig .tc := ⟨.hbm, 129, rfl⟩
abbrev main_while0b_v102 : Ref sig .tc := ⟨.hbm, 130, rfl⟩
abbrev main_while0b_v103 : Ref sig .tc := ⟨.hbm, 131, rfl⟩
abbrev main_while0b_v104 : Ref sig .tc := ⟨.hbm, 132, rfl⟩
abbrev main_while0b_cst_48 : Ref sig .tc := ⟨.hbm, 133, rfl⟩
abbrev main_while0b_v105 : Ref sig .tc := ⟨.hbm, 134, rfl⟩
abbrev main_while0b_v106 : Ref sig .tc := ⟨.hbm, 135, rfl⟩
abbrev main_while0b_v107 : Ref sig .tc := ⟨.hbm, 136, rfl⟩
abbrev main_while0b_v108 : Ref sig .tc := ⟨.hbm, 137, rfl⟩
abbrev main_while0b_v109 : Ref sig .tc := ⟨.hbm, 138, rfl⟩
abbrev main_while0b_v110 : Ref sig .tc := ⟨.hbm, 139, rfl⟩
abbrev main_while0b_v111 : Ref sig .tc := ⟨.hbm, 140, rfl⟩
abbrev main_while0b_cst_49 : Ref sig .tc := ⟨.hbm, 141, rfl⟩
abbrev main_while0b_v112 : Ref sig .tc := ⟨.hbm, 142, rfl⟩
abbrev main_while0b_cst_50 : Ref sig .tc := ⟨.hbm, 143, rfl⟩
abbrev main_while0b_v113 : Ref sig .tc := ⟨.hbm, 144, rfl⟩
abbrev main_while0b_v114 : Ref sig .tc := ⟨.hbm, 145, rfl⟩
abbrev main_while0b_v115 : Ref sig .tc := ⟨.hbm, 146, rfl⟩
abbrev main_while0b_v116 : Ref sig .tc := ⟨.hbm, 147, rfl⟩
abbrev main_while0b_v117 : Ref sig .tc := ⟨.hbm, 148, rfl⟩
abbrev main_while0b_v118 : Ref sig .tc := ⟨.hbm, 149, rfl⟩
abbrev main_while0b_v119 : Ref sig .tc := ⟨.hbm, 150, rfl⟩
abbrev main_while0b_v120 : Ref sig .tc := ⟨.hbm, 151, rfl⟩
abbrev main_while0b_c_51 : Ref sig .tc := ⟨.hbm, 152, rfl⟩
abbrev main_while0b_v121 : Ref sig .tc := ⟨.hbm, 153, rfl⟩
abbrev main_while0b_v122 : Ref sig .tc := ⟨.hbm, 154, rfl⟩
abbrev main_while0b_c_52 : Ref sig .tc := ⟨.hbm, 155, rfl⟩
abbrev main_while0b_v123 : Ref sig .tc := ⟨.hbm, 156, rfl⟩
abbrev main_while0b_v124 : Ref sig .tc := ⟨.hbm, 157, rfl⟩
abbrev main_while0b_v125 : Ref sig .tc := ⟨.hbm, 158, rfl⟩
abbrev main_while0b_v126 : Ref sig .tc := ⟨.hbm, 159, rfl⟩
abbrev main_while0b_v127 : Ref sig .tc := ⟨.hbm, 160, rfl⟩
abbrev main_while0b_c_53 : Ref sig .tc := ⟨.hbm, 161, rfl⟩
abbrev main_while0b_v128 : Ref sig .tc := ⟨.hbm, 162, rfl⟩
abbrev main_while0b_v129 : Ref sig .tc := ⟨.hbm, 163, rfl⟩
abbrev main_while0b_c_54 : Ref sig .tc := ⟨.hbm, 164, rfl⟩
abbrev main_while0b_v130 : Ref sig .tc := ⟨.hbm, 165, rfl⟩
abbrev main_while0b_v131 : Ref sig .tc := ⟨.hbm, 166, rfl⟩
abbrev main_while0b_v132 : Ref sig .tc := ⟨.hbm, 167, rfl⟩
abbrev main_while0b_v133 : Ref sig .tc := ⟨.hbm, 168, rfl⟩
abbrev main_while0b_v134 : Ref sig .tc := ⟨.hbm, 169, rfl⟩
abbrev main_while0b_v135 : Ref sig .tc := ⟨.hbm, 170, rfl⟩
abbrev main_while0b_v136 : Ref sig .tc := ⟨.hbm, 171, rfl⟩
abbrev main_while0b_v137 : Ref sig .tc := ⟨.hbm, 172, rfl⟩
abbrev main_while0b_call1_cst : Ref sig .tc := ⟨.hbm, 173, rfl⟩
abbrev main_while0b_call1_v0 : Ref sig .tc := ⟨.hbm, 174, rfl⟩
abbrev main_while0b_v138 : Ref sig .tc := ⟨.hbm, 175, rfl⟩
abbrev main_while0b_v139 : Ref sig .tc := ⟨.hbm, 176, rfl⟩
abbrev main_while0b_v140 : Ref sig .tc := ⟨.hbm, 177, rfl⟩
abbrev main_while0b_v141 : Ref sig .tc := ⟨.hbm, 178, rfl⟩
abbrev main_while0b_v142 : Ref sig .tc := ⟨.hbm, 179, rfl⟩
abbrev main_while0b_v143 : Ref sig .tc := ⟨.hbm, 180, rfl⟩
abbrev main_while0b_v144 : Ref sig .tc := ⟨.hbm, 181, rfl⟩
abbrev main_while0b_v145 : Ref sig .tc := ⟨.hbm, 182, rfl⟩
abbrev main_while0b_v146 : Ref sig .tc := ⟨.hbm, 183, rfl⟩
abbrev main_while0b_v147 : Ref sig .tc := ⟨.hbm, 184, rfl⟩
abbrev main_while0b_v148 : Ref sig .tc := ⟨.hbm, 185, rfl⟩
abbrev main_while0b_v149 : Ref sig .tc := ⟨.hbm, 186, rfl⟩
abbrev main_while0b_v150 : Ref sig .tc := ⟨.hbm, 187, rfl⟩
abbrev main_while0b_v151 : Ref sig .tc := ⟨.hbm, 188, rfl⟩
abbrev main_while0b_v152 : Ref sig .tc := ⟨.hbm, 189, rfl⟩
abbrev main_while0b_v153 : Ref sig .tc := ⟨.hbm, 190, rfl⟩
abbrev main_while0b_v154 : Ref sig .tc := ⟨.hbm, 191, rfl⟩
abbrev main_while0b_v155 : Ref sig .tc := ⟨.hbm, 192, rfl⟩
abbrev main_while0b_v156 : Ref sig .tc := ⟨.hbm, 193, rfl⟩
abbrev main_while0b_v157 : Ref sig .tc := ⟨.hbm, 194, rfl⟩
abbrev main_while0b_cst_55 : Ref sig .tc := ⟨.hbm, 195, rfl⟩
abbrev main_while0b_v158 : Ref sig .tc := ⟨.hbm, 196, rfl⟩
abbrev main_while0b_v159 : Ref sig .tc := ⟨.hbm, 197, rfl⟩
abbrev main_while0b_cst_56 : Ref sig .tc := ⟨.hbm, 198, rfl⟩
abbrev main_while0b_v160 : Ref sig .tc := ⟨.hbm, 199, rfl⟩
abbrev main_while0b_v161 : Ref sig .tc := ⟨.hbm, 200, rfl⟩
abbrev main_while0b_v162 : Ref sig .tc := ⟨.hbm, 201, rfl⟩
abbrev main_while0b_v163 : Ref sig .tc := ⟨.hbm, 202, rfl⟩
abbrev main_while0b_v164 : Ref sig .tc := ⟨.hbm, 203, rfl⟩
abbrev main_while0b_cst_57 : Ref sig .tc := ⟨.hbm, 204, rfl⟩
abbrev main_while0b_v165 : Ref sig .tc := ⟨.hbm, 205, rfl⟩
abbrev main_while0b_v166 : Ref sig .tc := ⟨.hbm, 206, rfl⟩
abbrev main_while0b_cst_58 : Ref sig .tc := ⟨.hbm, 207, rfl⟩
abbrev main_while0b_v167 : Ref sig .tc := ⟨.hbm, 208, rfl⟩
abbrev main_while0b_v168 : Ref sig .tc := ⟨.hbm, 209, rfl⟩
abbrev main_while0b_v169 : Ref sig .tc := ⟨.hbm, 210, rfl⟩
abbrev main_while0b_v170 : Ref sig .tc := ⟨.hbm, 211, rfl⟩
abbrev main_while0b_v171 : Ref sig .tc := ⟨.hbm, 212, rfl⟩
abbrev main_while0b_cst_59 : Ref sig .tc := ⟨.hbm, 213, rfl⟩
abbrev main_while0b_v172 : Ref sig .tc := ⟨.hbm, 214, rfl⟩
abbrev main_while0b_v173 : Ref sig .tc := ⟨.hbm, 215, rfl⟩
abbrev main_while0b_v174 : Ref sig .tc := ⟨.hbm, 216, rfl⟩
abbrev main_while0b_v175 : Ref sig .tc := ⟨.hbm, 217, rfl⟩
abbrev main_while0b_v176 : Ref sig .tc := ⟨.hbm, 218, rfl⟩
abbrev main_while0b_c_60 : Ref sig .tc := ⟨.hbm, 219, rfl⟩
abbrev main_while0b_v177 : Ref sig .tc := ⟨.hbm, 220, rfl⟩
abbrev main_c_3 : Ref sig .tc := ⟨.hbm, 221, rfl⟩
abbrev main_v11 : Ref sig .tc := ⟨.hbm, 222, rfl⟩
abbrev main_v12 : Ref sig .tc := ⟨.hbm, 223, rfl⟩
abbrev main_c_4 : Ref sig .tc := ⟨.hbm, 224, rfl⟩
abbrev main_v13 : Ref sig .tc := ⟨.hbm, 225, rfl⟩
abbrev main_v14 : Ref sig .tc := ⟨.hbm, 226, rfl⟩
abbrev main_v15 : Ref sig .tc := ⟨.hbm, 227, rfl⟩
abbrev main_v16 : Ref sig .tc := ⟨.hbm, 228, rfl⟩
abbrev main_v17 : Ref sig .tc := ⟨.hbm, 229, rfl⟩
abbrev main_c_5 : Ref sig .tc := ⟨.hbm, 230, rfl⟩
abbrev main_v18 : Ref sig .tc := ⟨.hbm, 231, rfl⟩
abbrev main_v19 : Ref sig .tc := ⟨.hbm, 232, rfl⟩
abbrev main_c_6 : Ref sig .tc := ⟨.hbm, 233, rfl⟩
abbrev main_v20 : Ref sig .tc := ⟨.hbm, 234, rfl⟩
abbrev main_v21 : Ref sig .tc := ⟨.hbm, 235, rfl⟩
abbrev main_v22 : Ref sig .tc := ⟨.hbm, 236, rfl⟩
abbrev main_v23 : Ref sig .tc := ⟨.hbm, 237, rfl⟩
abbrev main_v24 : Ref sig .tc := ⟨.hbm, 238, rfl⟩
abbrev main_v25 : Ref sig .tc := ⟨.hbm, 239, rfl⟩
abbrev main_v26 : Ref sig .tc := ⟨.hbm, 240, rfl⟩
abbrev main_v27 : Ref sig .tc := ⟨.hbm, 241, rfl⟩
abbrev main_v28 : Ref sig .tc := ⟨.hbm, 242, rfl⟩
abbrev main_call2_cst : Ref sig .tc := ⟨.hbm, 243, rfl⟩
abbrev main_call2_v0 : Ref sig .tc := ⟨.hbm, 244, rfl⟩
abbrev main_v29 : Ref sig .tc := ⟨.hbm, 245, rfl⟩
abbrev main_v30 : Ref sig .tc := ⟨.hbm, 246, rfl⟩
abbrev main_v31 : Ref sig .tc := ⟨.hbm, 247, rfl⟩
abbrev main_v32 : Ref sig .tc := ⟨.hbm, 248, rfl⟩
abbrev main_v33 : Ref sig .tc := ⟨.hbm, 249, rfl⟩
abbrev main_v34 : Ref sig .tc := ⟨.hbm, 250, rfl⟩
abbrev main_v35 : Ref sig .tc := ⟨.hbm, 251, rfl⟩
abbrev main_cst_7 : Ref sig .tc := ⟨.hbm, 252, rfl⟩
abbrev main_v36 : Ref sig .tc := ⟨.hbm, 253, rfl⟩
abbrev main_v37 : Ref sig .tc := ⟨.hbm, 254, rfl⟩
abbrev main_v38 : Ref sig .tc := ⟨.hbm, 255, rfl⟩
abbrev main_v39 : Ref sig .tc := ⟨.hbm, 256, rfl⟩
abbrev main_v40 : Ref sig .tc := ⟨.hbm, 257, rfl⟩
abbrev main_v41 : Ref sig .tc := ⟨.hbm, 258, rfl⟩
abbrev main_v42 : Ref sig .tc := ⟨.hbm, 259, rfl⟩
abbrev main_v43 : Ref sig .tc := ⟨.hbm, 260, rfl⟩
abbrev main_cst_8 : Ref sig .tc := ⟨.hbm, 261, rfl⟩
abbrev main_v44 : Ref sig .tc := ⟨.hbm, 262, rfl⟩
abbrev main_v45 : Ref sig .tc := ⟨.hbm, 263, rfl⟩
abbrev main_v46 : Ref sig .tc := ⟨.hbm, 264, rfl⟩

abbrev nD : Nat := 1
abbrev τ : Topo := Topo.v7x

variable {F : FTy → Type} [FloatOps F]

abbrev main_while0_count : Scf.Loop 32 := ⟨0#32, 32#32, 1#32⟩
-- ==== Proof.Spec.lean ====
/- The mathematics of one call, free of either program: what the hidden rows, the running loss and the first losses are,
   as functions of the argument arrays, over the extended reals. -/
module

public import Idealize.ShloMosaic.Lib.Pointwise

@[expose] public section

noncomputable section

namespace Cert.Spec

open Idealize.ShloMosaic

/-- The argument arrays, each read at its coordinates: `h0` the hidden rows the call starts from, `xs` and `fs` the
    observed values and their feature numbers per step and row, and the weights. -/
structure Args where
  h0 : Fin 256 → Fin 512 → EReal
  xs : Fin 32 → Fin 256 → EReal
  fs : Fin 32 → Fin 256 → Fin 128
  W1 : Fin 512 → Fin 512 → EReal
  b1 : Fin 512 → EReal
  W2 : Fin 512 → Fin 256 → EReal
  b2 : Fin 256 → EReal
  Wih : Fin 1536 → Fin 64 → EReal
  Whh : Fin 1536 → Fin 512 → EReal
  bih : Fin 1536 → EReal
  bhh : Fin 1536 → EReal
  wp : Fin 128 → Fin 4 → Fin 64 → EReal
  bp : Fin 128 → Fin 64 → EReal

/-- The hidden rows. -/
abbrev Hid : Type := Fin 256 → Fin 512 → EReal

/-- The constant one half, as the programs spell it. -/
abbrev half : EReal := Ideal.ofBits .f32 0x3F000000#32

/-- Column `c` of the left half of the 256 parameter columns: a mean. -/
abbrev lo (c : Fin 128) : Fin 256 := ⟨c.val, by omega⟩

/-- Column `c` of the right half of the 256 parameter columns: a log-variance. -/
abbrev hi (c : Fin 128) : Fin 256 := ⟨128 + c.val, by omega⟩

variable (A : Args) (H : Hid)

/-- The inner layer: `relu(H W1 + b1)`. -/
def act (b : Fin 256) (j : Fin 512) : EReal := max ((∑ k, H b k * A.W1 k j) + A.b1 j) 0

/-- The parameter columns: `relu(H W1 + b1) W2 + b2`. -/
def par (b : Fin 256) (c : Fin 256) : EReal := (∑ j, act A H b j * A.W2 j c) + A.b2 c

/-- The error of an observation `x` under a mean and a log-variance. -/
def err (x mean lv : EReal) : EReal := Ideal.div (x - mean) (Ideal.exp (half * lv))

/-- Row `b`'s error at step `t`. -/
def errT (t : Fin 32) (b : Fin 256) : EReal :=
  err (A.xs t b) (par A H b (lo (A.fs t b))) (par A H b (hi (A.fs t b)))

/-- What step `t` adds to the loss. -/
def inc (t : Fin 32) : EReal :=
  half * ∑ b, (errT A H t b * errT A H t b + par A H b (hi (A.fs t b)))

/-- The cell's input: the four numbers of a row against the feature's preparation weights, its bias, and relu. -/
def gin (t : Fin 32) (b : Fin 256) (j : Fin 64) : EReal :=
  max (A.xs t b * A.wp (A.fs t b) 0 j + par A H b (lo (A.fs t b)) * A.wp (A.fs t b) 1 j
    + par A H b (hi (A.fs t b)) * A.wp (A.fs t b) 2 j + errT A H t b * A.wp (A.fs t b) 3 j + A.bp (A.fs t b) j) 0

/-- The cell's gates from its input. -/
def gi (t : Fin 32) (b : Fin 256) (j : Fin 1536) : EReal := (∑ k, gin A H t b k * A.Wih j k) + A.bih j

/-- The cell's gates from the hidden rows. -/
def gh (b : Fin 256) (j : Fin 1536) : EReal := (∑ k, H b k * A.Whh j k) + A.bhh j

/-- The gate number `o + j`, for the three thirds at `o = 0, 512, 1024`. -/
abbrev gate (o : ℕ) (j : Fin 512) (h : o + 512 ≤ 1536 := by decide) : Fin 1536 := ⟨o + j.val, by omega⟩

/-- The reset gate. -/
def rr (t : Fin 32) (b : Fin 256) (j : Fin 512) : EReal :=
  Ideal.logistic (gi A H t b (gate 0 j) + gh A H b (gate 0 j))

/-- The update gate. -/
def zz (t : Fin 32) (b : Fin 256) (j : Fin 512) : EReal :=
  Ideal.logistic (gi A H t b (gate 512 j) + gh A H b (gate 512 j))

/-- The candidate. -/
def nn (t : Fin 32) (b : Fin 256) (j : Fin 512) : EReal :=
  Ideal.tanh (gi A H t b (gate 1024 j) + rr A H t b j * gh A H b (gate 1024 j))

/-- The hidden rows after step `t`. -/
def next (t : Fin 32) : Hid := fun b j => (1 - zz A H t b j) * nn A H t b j + zz A H t b j * H b j

/-- The hidden rows and the loss before step `t`: `n` steps from the start. -/
def iter : ℕ → Hid × EReal
  | 0 => (A.h0, 0)
  | n + 1 => if h : n < 32 then (next A (iter n).1 ⟨n, h⟩, (iter n).2 + inc A (iter n).1 ⟨n, h⟩) else iter n

/-- One more step, while there are steps. -/
theorem iter_succ (n : ℕ) (h : n < 32) :
    iter A (n + 1) = (next A (iter A n).1 ⟨n, h⟩, (iter A n).2 + inc A (iter A n).1 ⟨n, h⟩) := by
  rw [iter, dif_pos h]

/-- The first losses: of an observation `x` with mask `m` in row `b` and column `c`, from the starting rows. -/
def pre (x m : EReal) (b : Fin 256) (c : Fin 128) : EReal :=
  half * ((err x (par A A.h0 b (lo c)) (par A A.h0 b (hi c)) * err x (par A A.h0 b (lo c)) (par A A.h0 b (hi c))
    + par A A.h0 b (hi c)) * m)

end Cert.Spec

end
-- ==== Proof.OneHot.lean ====
/- Selecting with a one-hot vector: a sum, or a fold of integer additions, over entries of which all but one are zero. -/
module

public import Idealize.ShloMosaic.Lib.Pointwise
public import Idealize.ShloMosaic.Lib.WordCmp

@[expose] public section

noncomputable section

namespace Cert.OneHot

open Idealize.ShloMosaic

/-- Adding integers of which only the one at `t` may differ from zero gives that one, over any set that holds `t`; over a
    set without it, zero. -/
theorem fold_single_on {n w : ℕ} (a : BitVec w) (t : Fin n) (s : Finset (Fin n)) :
    Finset.fold IntOp.addi 0 (fun x => if x = t then a else 0) s = if t ∈ s then a else 0 := by
  classical
  induction s using Finset.induction_on with
  | empty => simp
  | insert x s hx ih =>
    rw [Finset.fold_insert hx, ih]
    by_cases h : x = t
    · subst h; simp [hx, IntOp.addi]
    · simp [h, Ne.symm h, IntOp.addi]

/-- Adding integers of which only the one at `t` may differ from zero gives that one. -/
theorem fold_single {n w : ℕ} (a : BitVec w) (t : Fin n) :
    Finset.fold IntOp.addi 0 (fun x : Fin n => if x = t then a else 0) Finset.univ = a := by
  rw [fold_single_on, if_pos (Finset.mem_univ t)]

/-- A sum of numbers of which only the one at `t` may differ from zero is that one. -/
theorem sum_single {n : ℕ} (f : Fin n → EReal) (t : Fin n) : (∑ x, if x = t then f x else 0) = f t := by
  rw [Finset.sum_ite_eq' Finset.univ t f, if_pos (Finset.mem_univ t)]

/-- A truth value as a number, times a number: that number where it holds, zero where it does not. -/
theorem bit_mul (p : Bool) (v : EReal) :
    FloatOps.sitofp (F := Ideal) .f32 (BitVec.setWidth 32 (BitVec.ofBool p)) * v = if p then v else 0 := by
  cases p
  · have h : (BitVec.setWidth 32 (BitVec.ofBool false)).toInt = 0 := by decide
    show (((BitVec.setWidth 32 (BitVec.ofBool false)).toInt : ℝ) : EReal) * v = _
    rw [h]; simp
  · have h : (BitVec.setWidth 32 (BitVec.ofBool true)).toInt = 1 := by decide
    show (((BitVec.setWidth 32 (BitVec.ofBool true)).toInt : ℝ) : EReal) * v = _
    rw [h]; simp

/-- Two short numbers as words are equal just when they are. -/
theorem cmp_ofNat {n m : ℕ} (hn : n ≤ 2 ^ 32) (hm : m ≤ 2 ^ 32) (x : Fin n) (y : Fin m) :
    IntOp.cmpi .eq (BitVec.ofNat 32 x.val) (BitVec.ofNat 32 y.val) = BitVec.ofBool (decide (x.val = y.val)) := by
  rw [WordCmp.cmpi_eq_eq]
  congr 1
  refine decide_eq_decide.mpr ⟨fun h => ?_, fun h => by rw [h]⟩
  have := congrArg BitVec.toNat h
  rwa [BitVec.toNat_ofNat, BitVec.toNat_ofNat, Nat.mod_eq_of_lt (lt_of_lt_of_le x.isLt hn),
    Nat.mod_eq_of_lt (lt_of_lt_of_le y.isLt hm)] at this

end Cert.OneHot

end
-- ==== Proof.Payloads.lean ====
/- What the words a later step of the kernel works with hold, element by element, in terms of the step's mathematics. -/
module

public import proofs.«01_k».proof.Proof.Spec
public import proofs.«01_k».proof.Proof.OneHot
public import proofs.«01_k».proof.Proof.Gen.KernelIdeal.Skeleton
public import Idealize.ShloMosaic.Lib.Scf.Counter

@[expose] public section

set_option maxRecDepth 16384

noncomputable section

namespace Cert.Payloads

open Idealize.ShloMosaic Cert.KernelIdeal Cert.KernelIdeal.Gen Cert.Spec Cert.OneHot

/-- Column `j` of preparation weight `i`, among the four weights and the bias. -/
abbrev wcol (i : Fin 4) (j : Fin 64) : Fin 320 := ⟨64 * i.val + j.val, by omega⟩

/-- Column `j` of the preparation bias, among the four weights and the bias. -/
abbrev bcol (j : Fin 64) : Fin 320 := ⟨256 + j.val, by omega⟩

/-- What the words the kernel keeps through the steps hold: its stacked weights, its concatenated tables, and its
    counting rows. -/
structure Words (A : Args) (v13 : Vec Ideal S2048x512 .f32) (v22 : Vec Ideal S512 .f32) (v24 : FVec Ideal S2x128 .f32)
    (v25 : Vec Ideal S1536x64 .f32) (v26 v27 : Vec Ideal S1536 .f32) (v31 : FVec Ideal S128x1344 .f32)
    (v34 : FVec Ideal S256x32 .f32) (v37 : IVec S256x32 32) (v38 : IVec S256x128 32) (v39 : IVec S256x32 32)
    (v40 : FVec Ideal S256x128 .f32) : Prop where
  w1 : ∀ j k : Fin 512, v13 (ix2 ⟨j.val, by omega⟩ k) = A.W1 k j
  wh : ∀ (j : Fin 1536) (k : Fin 512), v13 (ix2 ⟨512 + j.val, by omega⟩ k) = A.Whh j k
  b1 : ∀ j : Fin 512, v22 (ix1 j) = A.b1 j
  b2l : ∀ c : Fin 128, v24 (ix2 0 c) = A.b2 (lo c)
  b2h : ∀ c : Fin 128, v24 (ix2 1 c) = A.b2 (hi c)
  wi : ∀ (j : Fin 1536) (k : Fin 64), v25 (ix2 j k) = A.Wih j k
  bi : ∀ j : Fin 1536, v26 (ix1 j) = A.bih j
  bh : ∀ j : Fin 1536, v27 (ix1 j) = A.bhh j
  w2l : ∀ (f : Fin 128) (j : Fin 512), v31 (ix2 f ⟨j.val, by omega⟩) = A.W2 j (lo f)
  w2h : ∀ (f : Fin 128) (j : Fin 512), v31 (ix2 f ⟨512 + j.val, by omega⟩) = A.W2 j (hi f)
  wp : ∀ (f : Fin 128) (i : Fin 4) (j : Fin 64), v31 (ix2 f ⟨1024 + (64 * i.val + j.val), by omega⟩) = A.wp f i j
  bp : ∀ (f : Fin 128) (j : Fin 64), v31 (ix2 f ⟨1280 + j.val, by omega⟩) = A.bp f j
  xs : ∀ (b : Fin 256) (t : Fin 32), v34 (ix2 b t) = A.xs t b
  fs : ∀ (b : Fin 256) (t : Fin 32), v37 (ix2 b t) = BitVec.ofNat 32 (A.fs t b).val
  co : ∀ (b : Fin 256) (c : Fin 128), v38 (ix2 b c) = BitVec.ofNat 32 c.val
  ct : ∀ (b : Fin 256) (t : Fin 32), v39 (ix2 b t) = BitVec.ofNat 32 t.val
  zz : ∀ (b : Fin 256) (c : Fin 128), v40 (ix2 b c) = 0

variable {A : Args} {v13 : Vec Ideal S2048x512 .f32} {v22 : Vec Ideal S512 .f32} {v24 : FVec Ideal S2x128 .f32}
  {v25 : Vec Ideal S1536x64 .f32} {v26 v27 : Vec Ideal S1536 .f32} {v31 : FVec Ideal S128x1344 .f32}
  {v34 : FVec Ideal S256x32 .f32} {v37 : IVec S256x32 32} {v38 : IVec S256x128 32} {v39 : IVec S256x32 32}
  {v40 : FVec Ideal S256x128 .f32}

/-- The word of the counter at trip `k` is the step's number. -/
theorem iv_step (k : Fin k0_t1_loop.trips) (t : Fin 32) (h : t.val = k.val + 1) :
    Scf.iv 1#32 1#32 k.val = BitVec.ofNat 32 t.val := by
  rw [h, Scf.iv, BitVec.mul_one, show (1#32 : BitVec 32) = BitVec.ofNat 32 1 from rfl, ← BitVec.ofNat_add, Nat.add_comm]

section Step

variable (W : Words A v13 v22 v24 v25 v26 v27 v31 v34 v37 v38 v39 v40) (k : Fin k0_t1_loop.trips) (t : Fin 32)
  (ht : t.val = k.val + 1)

include W ht

/-- The step's mask holds in the step's column alone. -/
theorem pay1_eq (b : Fin 256) (x : Fin 32) :
    k0_pay1 v39 1#32 1#32 k (ix2 b x) = BitVec.ofBool (decide (x = t)) := by
  show IntOp.cmpi .eq (v39 (ix2 b x)) (Scf.iv 1#32 1#32 k.val) = _
  rw [W.ct, iv_step k t ht, cmp_ofNat (by norm_num) (by norm_num)]
  simp only [Fin.ext_iff]

/-- The step's observed values. -/
theorem pay2_eq (b : Fin 256) : k0_pay2 v34 v39 1#32 1#32 k (ix2 b 0) = A.xs t b := by
  have h : k0_pay2 v34 v39 1#32 1#32 k (ix2 b 0)
      = ∑ x : Fin 32, Scalar.select (k0_pay1 v39 1#32 1#32 k (ix2 b x)) (v34 (ix2 b x)) 0 := by
    pointwise [k0_pay2, k0_pay1]
  rw [h]
  simp only [pay1_eq W k t ht, W.xs, WordCmp.select_ofBool, decide_eq_true_eq]
  exact sum_single (fun x => A.xs x b) t

/-- The feature's one-hot row. -/
theorem pay3_eq (b : Fin 256) (c : Fin 128) :
    k0_pay3 v37 v38 v39 1#32 1#32 k (ix2 b c) = BitVec.ofBool (decide (c = A.fs t b)) := by
  have h : k0_pay3 v37 v38 v39 1#32 1#32 k (ix2 b c)
      = IntOp.cmpi .eq (v38 (ix2 b c)) (Finset.fold IntOp.addi 0#32
          (fun x : Fin 32 => Scalar.select (k0_pay1 v39 1#32 1#32 k (ix2 b x)) (v37 (ix2 b x)) 0#32) Finset.univ) := by
    pointwise [k0_pay3, k0_pay1]
  rw [h]
  have hf : (fun x : Fin 32 => Scalar.select (k0_pay1 v39 1#32 1#32 k (ix2 b x)) (v37 (ix2 b x)) 0#32)
      = fun x => if x = t then BitVec.ofNat 32 (A.fs t b).val else 0 := by
    funext x
    rw [pay1_eq W k t ht, W.fs, WordCmp.select_ofBool]
    by_cases hx : x = t
    · subst hx; simp
    · simp [hx]
  rw [hf, show (0#32 : BitVec 32) = 0 from rfl, fold_single, W.co, cmp_ofNat (by norm_num) (by norm_num)]
  simp only [Fin.ext_iff]

/-- A row of the concatenated table, selected by the one-hot row: the feature's. -/
theorem pay4_eq (b : Fin 256) (j : Fin 1344) :
    k0_pay4 v31 v37 v38 v39 1#32 1#32 k (ix2 b j) = v31 (ix2 (A.fs t b) j) := by
  have h : k0_pay4 v31 v37 v38 v39 1#32 1#32 k (ix2 b j)
      = ∑ x : Fin 128, FloatOps.sitofp (F := Ideal) .f32 (BitVec.setWidth 32 (k0_pay3 v37 v38 v39 1#32 1#32 k (ix2 b x)))
          * v31 (ix2 x j) := by
    pointwise [k0_pay4]
  rw [h]
  simp only [pay3_eq W k t ht, bit_mul, decide_eq_true_eq]
  exact sum_single (fun x => v31 (ix2 x j)) (A.fs t b)

/-- The feature's preparation weights and bias. -/
theorem pay6_wp (b : Fin 256) (i : Fin 4) (j : Fin 64) :
    k0_pay6 v31 v37 v38 v39 1#32 1#32 k (ix2 b (wcol i j)) = A.wp (A.fs t b) i j := by
  have h : k0_pay6 v31 v37 v38 v39 1#32 1#32 k (ix2 b (wcol i j))
      = k0_pay4 v31 v37 v38 v39 1#32 1#32 k (ix2 b ⟨1024 + (64 * i.val + j.val), by omega⟩) := by
    pointwise [k0_pay6]
  rw [h, pay4_eq W k t ht, W.wp]

/-- The feature's preparation bias. -/
theorem pay6_bp (b : Fin 256) (j : Fin 64) :
    k0_pay6 v31 v37 v38 v39 1#32 1#32 k (ix2 b (bcol j)) = A.bp (A.fs t b) j := by
  have h : k0_pay6 v31 v37 v38 v39 1#32 1#32 k (ix2 b (bcol j))
      = k0_pay4 v31 v37 v38 v39 1#32 1#32 k (ix2 b ⟨1280 + j.val, by omega⟩) := by
    have e : (⟨1280 + j.val, by omega⟩ : Fin 1344) = ⟨1024 + (256 + j.val), by omega⟩ := Fin.ext (by simp; omega)
    rw [e]
    pointwise [k0_pay6]
  rw [h, pay4_eq W k t ht, W.bp]

/-- The log-variance's bias at the feature. -/
theorem pay7_eq (b : Fin 256) :
    k0_pay7 v24 v37 v38 v39 v40 1#32 1#32 k (ix2 b 0) = A.b2 (hi (A.fs t b)) := by
  have h : k0_pay7 v24 v37 v38 v39 v40 1#32 1#32 k (ix2 b 0)
      = ∑ x : Fin 128, Scalar.select (k0_pay3 v37 v38 v39 1#32 1#32 k (ix2 b x)) (v24 (ix2 1 x)) (v40 (ix2 b x)) := by
    pointwise [k0_pay7]
  rw [h]
  simp only [pay3_eq W k t ht, W.b2h, W.zz, WordCmp.select_ofBool, decide_eq_true_eq]
  exact sum_single (fun x => A.b2 (hi x)) (A.fs t b)

/-- The log-variance's column of the second layer at the feature. -/
theorem pay12_eq (b : Fin 256) (j : Fin 512) :
    k0_pay12 v31 v37 v38 v39 1#32 1#32 k (ix2 b j) = A.W2 j (hi (A.fs t b)) := by
  have h : k0_pay12 v31 v37 v38 v39 1#32 1#32 k (ix2 b j)
      = k0_pay4 v31 v37 v38 v39 1#32 1#32 k (ix2 b ⟨512 + j.val, by omega⟩) := by
    pointwise [k0_pay12, k0_pay5]
  rw [h, pay4_eq W k t ht, W.w2h]

end Step

section Rows

variable (W : Words A v13 v22 v24 v25 v26 v27 v31 v34 v37 v38 v39 v40) (H : Hid) (v161 : Vec Ideal S256x512 .f32)
  (hH : ∀ b j, v161 (ix2 b j) = H b j)

include W hH

/-- The inner layer. -/
theorem pay9_eq (b : Fin 256) (j : Fin 512) : k0_pay9 v13 v22 v161 (ix2 b j) = act A H b j := by
  have h : k0_pay9 v13 v22 v161 (ix2 b j)
      = max ((∑ x : Fin 512, v161 (ix2 b x) * v13 (ix2 ⟨j.val, by omega⟩ x)) + v22 (ix1 j)) 0 := by
    pointwise [k0_pay9, k0_pay8]
  rw [h]
  simp only [hH, W.w1, W.b1, act]

/-- The gates from the hidden rows. -/
theorem pay10_eq (b : Fin 256) (j : Fin 1536) : k0_pay10 v13 v27 v161 (ix2 b j) = gh A H b j := by
  have h : k0_pay10 v13 v27 v161 (ix2 b j)
      = (∑ x : Fin 512, v161 (ix2 b x) * v13 (ix2 ⟨512 + j.val, by omega⟩ x)) + v27 (ix1 j) := by
    pointwise [k0_pay10, k0_pay8]
  rw [h]
  simp only [hH, W.wh, W.bh, gh]

/-- The mean at the step's feature. -/
theorem pay11_eq (k : Fin k0_t1_loop.trips) (t : Fin 32) (ht : t.val = k.val + 1) (b : Fin 256) :
    k0_pay11 v13 v22 v24 v31 v37 v38 v39 v40 1#32 1#32 k v161 (ix2 b 0) = par A H b (lo (A.fs t b)) := by
  have h : k0_pay11 v13 v22 v24 v31 v37 v38 v39 v40 1#32 1#32 k v161 (ix2 b 0)
      = (∑ x : Fin 512, k0_pay9 v13 v22 v161 (ix2 b x) * k0_pay4 v31 v37 v38 v39 1#32 1#32 k (ix2 b ⟨x.val, by omega⟩))
        + ∑ x : Fin 128, Scalar.select (k0_pay3 v37 v38 v39 1#32 1#32 k (ix2 b x)) (v24 (ix2 0 x)) (v40 (ix2 b x)) := by
    pointwise [k0_pay11, k0_pay5]
  rw [h]
  simp only [pay9_eq W H v161 hH, pay4_eq W k t ht, W.w2l, pay3_eq W k t ht, W.b2l, W.zz, WordCmp.select_ofBool,
    decide_eq_true_eq]
  rw [sum_single (fun x => A.b2 (lo x)) (A.fs t b), par]

end Rows

end Cert.Payloads

end
-- ==== Proof.Step.lean ====
/- One later step of the kernel: what it adds to the loss and the hidden rows it leaves. -/
module

public import proofs.«01_k».proof.Proof.Payloads

@[expose] public section

set_option maxRecDepth 16384

noncomputable section

namespace Cert.Payloads

open Idealize.ShloMosaic Cert.KernelIdeal Cert.KernelIdeal.Gen Cert.Spec Cert.OneHot

section Cell

variable {A : Args} (H : Hid) (t : Fin 32) {v25 : Vec Ideal S1536x64 .f32} {v26 : Vec Ideal S1536 .f32}
  (v167 : FVec Ideal S256x1 .f32) (v178 : FVec Ideal S256x320 .f32) (v190 : FVec Ideal S256x1 .f32)
  (v197 : FVec Ideal S256x512 .f32) (v201 : FVec Ideal S256x1536 .f32) (v206 : FVec Ideal S256x1 .f32)
  (v207 : FVec Ideal S256x512 .f32)
  (hw : ∀ (j : Fin 1536) (k : Fin 64), v25 (ix2 j k) = A.Wih j k) (hb : ∀ j : Fin 1536, v26 (ix1 j) = A.bih j)
  (h167 : ∀ b : Fin 256, v167 (ix2 b 0) = A.xs t b)
  (h178 : ∀ (b : Fin 256) (i : Fin 4) (j : Fin 64), v178 (ix2 b (wcol i j)) = A.wp (A.fs t b) i j)
  (h178b : ∀ (b : Fin 256) (j : Fin 64), v178 (ix2 b (bcol j)) = A.bp (A.fs t b) j)
  (h190 : ∀ b : Fin 256, v190 (ix2 b 0) = A.b2 (hi (A.fs t b)))
  (h197 : ∀ (b : Fin 256) (j : Fin 512), v197 (ix2 b j) = act A H b j)
  (h201 : ∀ (b : Fin 256) (j : Fin 1536), v201 (ix2 b j) = gh A H b j)
  (h206 : ∀ b : Fin 256, v206 (ix2 b 0) = par A H b (lo (A.fs t b)))
  (h207 : ∀ (b : Fin 256) (j : Fin 512), v207 (ix2 b j) = A.W2 j (hi (A.fs t b)))

include h190 h197 h207

/-- The log-variance at the step's feature. -/
theorem pay13_eq (b : Fin 256) : k0_pay13 v190 v197 v207 (ix2 b 0) = par A H b (hi (A.fs t b)) := by
  have h : k0_pay13 v190 v197 v207 (ix2 b 0)
      = (∑ x : Fin 512, v197 (ix2 b x) * v207 (ix2 b x)) + v190 (ix2 b 0) := by
    pointwise [k0_pay13]
  rw [h]
  simp only [h190, h197, h207, par]

include h167 h206

/-- The error of the step's observation. -/
theorem pay14_eq (b : Fin 256) : k0_pay14 v167 v190 v197 v206 v207 (ix2 b 0) = errT A H t b := by
  have h : k0_pay14 v167 v190 v197 v206 v207 (ix2 b 0)
      = err (v167 (ix2 b 0)) (v206 (ix2 b 0)) (k0_pay13 v190 v197 v207 (ix2 b 0)) := by
    unfold err half
    pointwise [k0_pay14]
  rw [h, pay13_eq H t v190 v197 v207 h190 h197 h207, h167, h206, errT]

/-- What the step adds to the loss. -/
theorem pay15_eq : k0_pay15 v167 v190 v197 v206 v207 = inc A H t := by
  have h : k0_pay15 v167 v190 v197 v206 v207
      = half * ∑ b : Fin 256, (k0_pay14 v167 v190 v197 v206 v207 (ix2 b 0) * k0_pay14 v167 v190 v197 v206 v207 (ix2 b 0)
          + k0_pay13 v190 v197 v207 (ix2 b 0)) := by
    unfold half
    pointwise [k0_pay15]
    simp only [Finset.sum_const, Finset.card_univ, Fintype.card_fin, one_smul]
  rw [h]
  simp only [pay13_eq H t v190 v197 v207 h190 h197 h207,
    pay14_eq H t v167 v190 v197 v206 v207 h167 h190 h197 h206 h207, inc]

include hw hb h178 h178b

/-- The gates from the cell's input. -/
theorem pay16_eq (b : Fin 256) (j : Fin 1536) :
    k0_pay16 v25 v26 v167 v178 v190 v197 v206 v207 (ix2 b j) = gi A H t b j := by
  have h : k0_pay16 v25 v26 v167 v178 v190 v197 v206 v207 (ix2 b j)
      = (∑ x : Fin 64, max (v167 (ix2 b 0) * v178 (ix2 b ⟨64 * (0 : Fin 4).val + x.val, by simp; omega⟩)
          + v206 (ix2 b 0) * v178 (ix2 b ⟨64 * (1 : Fin 4).val + x.val, by simp; omega⟩)
          + k0_pay13 v190 v197 v207 (ix2 b 0) * v178 (ix2 b ⟨64 * (2 : Fin 4).val + x.val, by simp; omega⟩)
          + k0_pay14 v167 v190 v197 v206 v207 (ix2 b 0) * v178 (ix2 b ⟨64 * (3 : Fin 4).val + x.val, by simp; omega⟩)
          + v178 (ix2 b ⟨256 + x.val, by omega⟩)) 0 * v25 (ix2 j x)) + v26 (ix1 j) := by
    pointwise [k0_pay16]
  rw [h]
  simp only [pay13_eq H t v190 v197 v207 h190 h197 h207,
    pay14_eq H t v167 v190 v197 v206 v207 h167 h190 h197 h206 h207, hw, hb, h167, h206, h178, h178b, gi, gin]

include h201

/-- The update gate. -/
theorem pay17_eq (b : Fin 256) (j : Fin 512) :
    k0_pay17 v25 v26 v167 v178 v190 v197 v201 v206 v207 (ix2 b j) = Spec.zz A H t b j := by
  have h : k0_pay17 v25 v26 v167 v178 v190 v197 v201 v206 v207 (ix2 b j)
      = Ideal.logistic (k0_pay16 v25 v26 v167 v178 v190 v197 v206 v207 (ix2 b (gate 512 j)) + v201 (ix2 b (gate 512 j))) := by
    pointwise [k0_pay17]
  rw [h, pay16_eq H t v167 v178 v190 v197 v206 v207 hw hb h167 h178 h178b h190 h197 h206 h207, h201, Spec.zz]

/-- The candidate. -/
theorem pay18_eq (b : Fin 256) (j : Fin 512) :
    k0_pay18 v25 v26 v167 v178 v190 v197 v201 v206 v207 (ix2 b j) = nn A H t b j := by
  have h : k0_pay18 v25 v26 v167 v178 v190 v197 v201 v206 v207 (ix2 b j)
      = Ideal.tanh (k0_pay16 v25 v26 v167 v178 v190 v197 v206 v207 (ix2 b (gate 1024 j))
          + Ideal.logistic (k0_pay16 v25 v26 v167 v178 v190 v197 v206 v207 (ix2 b (gate 0 j)) + v201 (ix2 b (gate 0 j)))
            * v201 (ix2 b (gate 1024 j))) := by
    rw [show gate 0 j = (⟨j.val, by omega⟩ : Fin 1536) from Fin.ext (Nat.zero_add _)]
    pointwise [k0_pay18]
  rw [h]
  simp only [pay16_eq H t v167 v178 v190 v197 v206 v207 hw hb h167 h178 h178b h190 h197 h206 h207, h201, nn, rr]

/-- The hidden rows the step leaves. -/
theorem pay48_eq (v161 : Vec Ideal S256x512 .f32) (hH : ∀ b j, v161 (ix2 b j) = H b j) (b : Fin 256) (j : Fin 512) :
    k0_pay48 v161 (k0_pay17 v25 v26 v167 v178 v190 v197 v201 v206 v207)
      (k0_pay18 v25 v26 v167 v178 v190 v197 v201 v206 v207) k0_pay19 (ix2 b j) = next A H t b j := by
  have h : ∀ z n : FVec Ideal S256x512 .f32, k0_pay48 v161 z n k0_pay19 (ix2 b j)
      = (1 - z (ix2 b j)) * n (ix2 b j) + z (ix2 b j) * v161 (ix2 b j) := by
    intro z n
    pointwise [k0_pay48, k0_pay19]
  rw [h, pay17_eq H t v167 v178 v190 v197 v201 v206 v207 hw hb h167 h178 h178b h190 h197 h201 h206 h207,
    pay18_eq H t v167 v178 v190 v197 v201 v206 v207 hw hb h167 h178 h178b h190 h197 h201 h206 h207, hH, next]

end Cell

end Cert.Payloads

end
-- ==== Proof.Trip.lean ====
/- The kernel's loop: one trip is one step of the mathematics, and so after the loop the hidden rows and the running
   loss are those after all the steps. -/
module

public import proofs.«01_k».proof.Proof.Step
public import proofs.«01_k».proof.Proof.Gen.KernelIdeal.Frame
public import Idealize.ShloMosaic.Lib.Pipeline.Value
public import Idealize.ShloMosaic.Lib.VecWindow
public import Idealize.ShloMosaic.Lib.Tactic

@[expose] public section

set_option maxRecDepth 16384

noncomputable section

namespace Cert.Trip

open Idealize.ShloMosaic Idealize.SL.Sem Cert.KernelIdeal Cert.KernelIdeal.Gen Cert.Spec Cert.Payloads

/-- The rows a buffer of the hidden rows' shape holds. -/
abbrev rows (arg18 : Memref sig .tc .vmem S256x512 .f32) (f : BufTy.Contents (Elt Ideal) arg18.view.ty) : Vec Ideal S256x512 .f32 :=
  View.readAt (Elt Ideal) arg18.view (Rect.unit ![0, 0] S256x512.size inb_S256x512_S256x512_0_0).toLoadRect f

variable {A : Args} (𝒱 : Variants) (c : Dev nD) (bd : Option 𝒱.V)
  (arg0 : Memref sig .tc .vmem S512x512 .f32) (harg0 : arg0.IsWhole) (arg1 : Memref sig .tc .vmem S32x256 .f32) (harg1
  : arg1.IsWhole) (arg2 : Memref sig .tc .vmem S32x256 .i32) (harg2 : arg2.IsWhole) (arg3 : Memref sig .tc .vmem
  S256x128 .f32) (harg3 : arg3.IsWhole) (arg4 : Memref sig .tc .vmem S256x128 .f32) (harg4 : arg4.IsWhole) (arg5 :
  Memref sig .tc .vmem S512x512 .f32) (harg5 : arg5.IsWhole) (arg6 : Memref sig .tc .vmem S512 .f32) (harg6 :
  arg6.IsWhole) (arg7 : Memref sig .tc .vmem S512x256 .f32) (harg7 : arg7.IsWhole) (arg8 : Memref sig .tc .vmem S2x128
  .f32) (harg8 : arg8.IsWhole) (arg9 : Memref sig .tc .vmem S1536x64 .f32) (harg9 : arg9.IsWhole) (arg10 : Memref sig
  .tc .vmem S1536x512 .f32) (harg10 : arg10.IsWhole) (arg11 : Memref sig .tc .vmem S1536 .f32) (harg11 :
  arg11.IsWhole) (arg12 : Memref sig .tc .vmem S1536 .f32) (harg12 : arg12.IsWhole) (arg13 : Memref sig .tc .vmem
  S128x256 .f32) (harg13 : arg13.IsWhole) (arg14 : Memref sig .tc .vmem S128x64 .f32) (harg14 : arg14.IsWhole) (arg15
  : Memref sig .tc .vmem S512x512 .f32) (harg15 : arg15.IsWhole) (arg16 : Memref sig .tc .smem S1x1 .f32) (harg16 :
  arg16.IsWhole) (arg17 : Memref sig .tc .vmem S256x128 .f32) (harg17 : arg17.IsWhole) (arg18 : Memref sig .tc .vmem
  S256x512 .f32) (harg18 : arg18.IsWhole) (arg19 : Memref sig .tc .vmem S2048x512 .f32) (harg19 : arg19.IsWhole)
  (arg20 : Memref sig .tc .vmem S256x512 .f32) (harg20 : arg20.IsWhole)
  (v13 : Vec Ideal S2048x512 .f32) (v22 : Vec Ideal S512 .f32) (v24 : FVec Ideal S2x128 .f32) (v25 : Vec Ideal
  S1536x64 .f32) (v26 : Vec Ideal S1536 .f32) (v27 : Vec Ideal S1536 .f32) (v31 : FVec Ideal S128x1344 .f32) (v34 :
  FVec Ideal S256x32 .f32) (v37 : IVec S256x32 32) (v38 : IVec S256x128 32) (v39 : IVec S256x32 32) (v40 : FVec Ideal
  S256x128 .f32) (v41 : Vec Ideal S256x512 .f32) (v52 : FVec Ideal S256x1536 .f32) (v81 : FVec Ideal S256x1 .f32) (v91
  : FVec Ideal S256x320 .f32) (v94 : FVec Ideal S256x1 .f32) (v97 : FVec Ideal S256x1 .f32) (v102 : FVec Ideal S256x1
  .f32) (v109 : Ideal .f32) (v110 : FVec Ideal S256x64 .f32)
  (W : Words A v13 v22 v24 v25 v26 v27 v31 v34 v37 v38 v39 v40)

include W

/-- One trip: the loss grows by the step's part, and the hidden rows become the next ones. -/
theorem trip_eq (k : Fin k0_t1_loop.trips) (t : Fin 32) (ht : t.val = k.val + 1) (acc : EReal)
    (f : BufTy.Contents (Elt Ideal) arg18.view.ty) (H : Hid) (hH : ∀ b j, rows arg18 f (ix2 b j) = H b j) :
    tripR_k0_t1 (F := Ideal) 𝒱 c bd
      arg0 harg0 arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 v13 v22 v24 v25 v26 v27 v31 v34 v37 v38 v39 v40 v41 v52 v81 v91 v94 v97 v102
      v109 v110 k acc f = acc + inc A H t
    ∧ ∃ w : Vec Ideal S256x512 .f32, (∀ b j, w (ix2 b j) = next A H t b j) ∧
      tripL_k0_t1 (F := Ideal) 𝒱 c bd
      arg0 harg0 arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 v13 v22 v24 v25 v26 v27 v31 v34 v37 v38 v39 v40 v41 v52 v81 v91 v94 v97 v102
      v109 v110 k acc f
        = [⟨Rect.unit ![0, 0] S256x512.size inb_S256x512_S256x512_0_0, w⟩] := by
  unfold tripR_k0_t1 tripL_k0_t1 trip_k0_t1
  dsimp only
  sl_unfold_words
  have h2 := pay2_eq W k t ht
  have h6 := pay6_wp W k t ht
  have h6b := pay6_bp W k t ht
  have h7 := pay7_eq W k t ht
  have h9 := pay9_eq W H _ hH
  have h10 := pay10_eq W H _ hH
  have h11 := pay11_eq W H _ hH k t ht
  have h12 := pay12_eq W k t ht
  refine ⟨?_, _, ?_, rfl⟩
  · rw [pay15_eq H t _ _ _ _ _ h2 h7 h9 h11 h12]
    rfl
  · exact pay48_eq H t _ _ _ _ _ _ _ W.wi W.bi h2 h6 h6b h7 h9 h10 h11 h12 _ hH

/-- Before trip `n`: the loss and the hidden rows after `n + 1` steps, the first step being made before the loop. -/
theorem state_eq (G : BufTy.Contents (Elt Ideal) arg18.view.ty) (init : EReal)
    (hi : init = (iter A 1).2) (hG : ∀ b j, rows arg18 G (ix2 b j) = (iter A 1).1 b j) (n : ℕ) (hn : n ≤ k0_t1_loop.trips) :
    (st_k0_t1 (F := Ideal) 𝒱 c bd
      arg0 harg0 arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 v13 v22 v24 v25 v26 v27 v31 v34 v37 v38 v39 v40 v41 v52 v81 v91 v94 v97 v102
      v109 v110 G init n).1 = (iter A (n + 1)).2
    ∧ ∀ b j, rows arg18 (arg18.view.writes (Elt Ideal) G (st_k0_t1 (F := Ideal) 𝒱 c bd
      arg0 harg0 arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 v13 v22 v24 v25 v26 v27 v31 v34 v37 v38 v39 v40 v41 v52 v81 v91 v94 v97 v102
      v109 v110 G init n).2) (ix2 b j) = (iter A (n + 1)).1 b j := by
  induction n with
  | zero => exact ⟨hi, hG⟩
  | succ n ih =>
    obtain ⟨h1, h2⟩ := ih (Nat.le_of_succ_le hn)
    have h31 : k0_t1_loop.trips ≤ 31 := k0_t1_abs.2.1
    have hs := st_k0_t1_succ (F := Ideal) 𝒱 c bd
      arg0 harg0 arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 v13 v22 v24 v25 v26 v27 v31 v34 v37 v38 v39 v40 v41 v52 v81 v91 v94 v97 v102
      v109 v110 G init ⟨n, hn⟩
    dsimp only at hs
    obtain ⟨h3, w, hw, h4⟩ := trip_eq 𝒱 c bd
      arg0 harg0 arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 v13 v22 v24 v25 v26 v27 v31 v34 v37 v38 v39 v40 v41 v52 v81 v91 v94 v97 v102
      v109 v110 W
      ⟨n, hn⟩ ⟨n + 1, by omega⟩ rfl (iter A (n + 1)).2 _ _ h2
    rw [hs, iter_succ A (n + 1) (by omega)]
    refine ⟨?_, fun b j => ?_⟩
    · rw [h1]; exact h3
    · rw [h1]
      dsimp only
      rw [h4, List.singleton_append]
      exact (congrFun (View.readAt_writes_full arg18.view G inb_S256x512_S256x512_0_0 inb_S256x512_S256x512_0_0 w _) (ix2 b j)).trans (hw b j)

end Cert.Trip

end
-- ==== Proof.First.lean ====
/- The kernel's first step, which it works from the whole parameter block: the first losses, what the step adds to the
   loss, and the hidden rows it leaves. -/
module

public import proofs.«01_k».proof.Proof.Payloads

@[expose] public section

set_option maxRecDepth 16384

noncomputable section

namespace Cert.Payloads

open Idealize.ShloMosaic Cert.KernelIdeal Cert.KernelIdeal.Gen Cert.Spec Cert.OneHot

variable {A : Args} {v13 : Vec Ideal S2048x512 .f32} {v22 : Vec Ideal S512 .f32} {v24 : FVec Ideal S2x128 .f32}
  {v25 : Vec Ideal S1536x64 .f32} {v26 v27 : Vec Ideal S1536 .f32} {v31 : FVec Ideal S128x1344 .f32}
  {v34 : FVec Ideal S256x32 .f32} {v37 : IVec S256x32 32} {v38 : IVec S256x128 32} {v39 : IVec S256x32 32}
  {v40 : FVec Ideal S256x128 .f32}

section Params

variable (W : Words A v13 v22 v24 v25 v26 v27 v31 v34 v37 v38 v39 v40) (H : Hid) (v41 : Vec Ideal S256x512 .f32)
  (v53 : Vec Ideal S512x256 .f32) (hH : ∀ b j, v41 (ix2 b j) = H b j) (h53 : ∀ j c, v53 (ix2 j c) = A.W2 j c)

include W hH

/-- The gates from the starting rows. -/
theorem pay31_eq (b : Fin 256) (j : Fin 1536) : k0_pay31 v13 v27 v41 (ix2 b j) = gh A H b j := by
  have h : k0_pay31 v13 v27 v41 (ix2 b j)
      = (∑ x : Fin 512, v41 (ix2 b x) * v13 (ix2 ⟨512 + j.val, by omega⟩ x)) + v27 (ix1 j) := by
    pointwise [k0_pay31, k0_pay30]
  rw [h]
  simp only [hH, W.wh, W.bh, gh]

include h53

/-- The second layer before its bias. -/
theorem pay32_eq (b c : Fin 256) : k0_pay32 v13 v22 v41 v53 (ix2 b c) = ∑ j, act A H b j * A.W2 j c := by
  have h : k0_pay32 v13 v22 v41 v53 (ix2 b c)
      = ∑ j : Fin 512, max ((∑ x : Fin 512, v41 (ix2 b x) * v13 (ix2 ⟨j.val, by omega⟩ x)) + v22 (ix1 j)) 0
          * v53 (ix2 j c) := by
    pointwise [k0_pay32, k0_pay30]
  rw [h]
  simp only [hH, W.w1, W.b1, act, h53]

/-- The means of every feature. -/
theorem pay33_eq (b : Fin 256) (c : Fin 128) : k0_pay33 v13 v22 v24 v41 v53 (ix2 b c) = par A H b (lo c) := by
  have h : k0_pay33 v13 v22 v24 v41 v53 (ix2 b c) = k0_pay32 v13 v22 v41 v53 (ix2 b (lo c)) + v24 (ix2 0 c) := by
    pointwise [k0_pay33]
  rw [h, pay32_eq W H v41 v53 hH h53, W.b2l, par]

/-- The log-variances of every feature. -/
theorem pay34_eq (b : Fin 256) (c : Fin 128) : k0_pay34 v13 v22 v24 v41 v53 (ix2 b c) = par A H b (hi c) := by
  have h : k0_pay34 v13 v22 v24 v41 v53 (ix2 b c) = k0_pay32 v13 v22 v41 v53 (ix2 b (hi c)) + v24 (ix2 1 c) := by
    pointwise [k0_pay34]
  rw [h, pay32_eq W H v41 v53 hH h53, W.b2h, par]

/-- The first losses, of observations `v66` with masks `v71`, from the rows `H`. -/
theorem pay37_eq (v66 v71 : FVec Ideal S256x128 .f32) (hA : A.h0 = H) (b : Fin 256) (c : Fin 128) :
    k0_pay37 (k0_pay34 v13 v22 v24 v41 v53) (k0_pay35 v13 v22 v24 v41 v53) (k0_pay36 v13 v22 v24 v41 v53 v66) v71 (ix2 b c)
      = pre A (v66 (ix2 b c)) (v71 (ix2 b c)) b c := by
  have h : k0_pay37 (k0_pay34 v13 v22 v24 v41 v53) (k0_pay35 v13 v22 v24 v41 v53) (k0_pay36 v13 v22 v24 v41 v53 v66) v71 (ix2 b c)
      = half * ((err (v66 (ix2 b c)) (k0_pay33 v13 v22 v24 v41 v53 (ix2 b c)) (k0_pay34 v13 v22 v24 v41 v53 (ix2 b c))
          * err (v66 (ix2 b c)) (k0_pay33 v13 v22 v24 v41 v53 (ix2 b c)) (k0_pay34 v13 v22 v24 v41 v53 (ix2 b c))
          + k0_pay34 v13 v22 v24 v41 v53 (ix2 b c)) * v71 (ix2 b c)) := by
    unfold err half
    pointwise [k0_pay37, k0_pay35, k0_pay36]
  rw [h, pay33_eq W H v41 v53 hH h53, pay34_eq W H v41 v53 hH h53, pre, hA]

end Params

section Select

variable (W : Words A v13 v22 v24 v25 v26 v27 v31 v34 v37 v38 v39 v40)

include W

/-- The first step's mask holds in column zero alone. -/
theorem pay38_eq (b : Fin 256) (x : Fin 32) : k0_pay38 v39 (ix2 b x) = BitVec.ofBool (decide (x = 0)) := by
  show IntOp.cmpi .eq (v39 (ix2 b x)) (BitVec.ofNat 32 (0 : Fin 32).val) = _
  rw [W.ct, cmp_ofNat (by norm_num) (by norm_num)]
  simp only [Fin.ext_iff]

/-- The first step's observed values. -/
theorem pay39_eq (b : Fin 256) : k0_pay39 v34 v39 (ix2 b 0) = A.xs 0 b := by
  have h : k0_pay39 v34 v39 (ix2 b 0)
      = ∑ x : Fin 32, Scalar.select (k0_pay38 v39 (ix2 b x)) (v34 (ix2 b x)) 0 := by
    pointwise [k0_pay39]
  rw [h]
  simp only [pay38_eq W, W.xs, WordCmp.select_ofBool, decide_eq_true_eq]
  exact sum_single (fun x => A.xs x b) 0

/-- The first step's one-hot row. -/
theorem pay40_eq (b : Fin 256) (c : Fin 128) :
    k0_pay40 v37 v38 v39 (ix2 b c) = BitVec.ofBool (decide (c = A.fs 0 b)) := by
  have h : k0_pay40 v37 v38 v39 (ix2 b c)
      = IntOp.cmpi .eq (v38 (ix2 b c)) (Finset.fold IntOp.addi 0#32
          (fun x : Fin 32 => Scalar.select (k0_pay38 v39 (ix2 b x)) (v37 (ix2 b x)) 0#32) Finset.univ) := by
    pointwise [k0_pay40]
  rw [h]
  have hf : (fun x : Fin 32 => Scalar.select (k0_pay38 v39 (ix2 b x)) (v37 (ix2 b x)) 0#32)
      = fun x => if x = 0 then BitVec.ofNat 32 (A.fs 0 b).val else 0 := by
    funext x
    rw [pay38_eq W, W.fs, WordCmp.select_ofBool]
    by_cases hx : x = 0
    · subst hx; simp
    · simp [hx]
  rw [hf, show (0#32 : BitVec 32) = 0 from rfl, fold_single, W.co, cmp_ofNat (by norm_num) (by norm_num)]
  simp only [Fin.ext_iff]

/-- The first step's preparation weights and bias, as columns of the concatenated table. -/
theorem pay41_eq (b : Fin 256) (j : Fin 320) :
    k0_pay41 v31 v37 v38 v39 (ix2 b j) = v31 (ix2 (A.fs 0 b) ⟨1024 + j.val, by omega⟩) := by
  have h : k0_pay41 v31 v37 v38 v39 (ix2 b j)
      = ∑ x : Fin 128, FloatOps.sitofp (F := Ideal) .f32 (BitVec.setWidth 32 (k0_pay40 v37 v38 v39 (ix2 b x)))
          * v31 (ix2 x ⟨1024 + j.val, by omega⟩) := by
    pointwise [k0_pay41]
  rw [h]
  simp only [pay40_eq W, bit_mul, decide_eq_true_eq]
  exact sum_single (fun x => v31 (ix2 x ⟨1024 + j.val, by omega⟩)) (A.fs 0 b)

/-- The first step's preparation weights. -/
theorem pay41_wp (b : Fin 256) (i : Fin 4) (j : Fin 64) :
    k0_pay41 v31 v37 v38 v39 (ix2 b (wcol i j)) = A.wp (A.fs 0 b) i j := by
  rw [pay41_eq W, W.wp]

/-- The first step's preparation bias. -/
theorem pay41_bp (b : Fin 256) (j : Fin 64) :
    k0_pay41 v31 v37 v38 v39 (ix2 b (bcol j)) = A.bp (A.fs 0 b) j := by
  rw [pay41_eq W, ← W.bp]
  congr 2
  exact Fin.ext (by simp; omega)

/-- The first of the preparation weights. -/
theorem pay46_eq (b : Fin 256) (j : Fin 64) : k0_pay46 v31 v37 v38 v39 (ix2 b j) = A.wp (A.fs 0 b) 0 j := by
  have h : k0_pay46 v31 v37 v38 v39 (ix2 b j) = k0_pay41 v31 v37 v38 v39 (ix2 b ⟨j.val, by omega⟩) := by
    pointwise [k0_pay46]
  rw [h, ← pay41_wp W]
  congr 2
  exact Fin.ext (by simp)

/-- A block's column at the first step's feature, summed out by the one-hot row. -/
theorem pay42_eq (v58 : FVec Ideal S256x128 .f32) (b : Fin 256) :
    k0_pay42 v37 v38 v39 v40 v58 (ix2 b 0) = v58 (ix2 b (A.fs 0 b)) := by
  have h : k0_pay42 v37 v38 v39 v40 v58 (ix2 b 0)
      = ∑ x : Fin 128, Scalar.select (k0_pay40 v37 v38 v39 (ix2 b x)) (v58 (ix2 b x)) (v40 (ix2 b x)) := by
    pointwise [k0_pay42]
  rw [h]
  simp only [pay40_eq W, W.zz, WordCmp.select_ofBool, decide_eq_true_eq]
  exact sum_single (fun x => v58 (ix2 b x)) (A.fs 0 b)

/-- The same for the log-variance block. -/
theorem pay43_eq (v62 : FVec Ideal S256x128 .f32) (b : Fin 256) :
    k0_pay43 v37 v38 v39 v40 v62 (ix2 b 0) = v62 (ix2 b (A.fs 0 b)) := by
  have h : k0_pay43 v37 v38 v39 v40 v62 (ix2 b 0)
      = ∑ x : Fin 128, Scalar.select (k0_pay40 v37 v38 v39 (ix2 b x)) (v62 (ix2 b x)) (v40 (ix2 b x)) := by
    pointwise [k0_pay43]
  rw [h]
  simp only [pay40_eq W, W.zz, WordCmp.select_ofBool, decide_eq_true_eq]
  exact sum_single (fun x => v62 (ix2 b x)) (A.fs 0 b)

variable (H : Hid) (v58 v62 : FVec Ideal S256x128 .f32) (h58 : ∀ b c, v58 (ix2 b c) = par A H b (lo c))
  (h62 : ∀ b c, v62 (ix2 b c) = par A H b (hi c))

include h58 h62

/-- The first step's error. -/
theorem pay44_eq (b : Fin 256) : k0_pay44 v34 v37 v38 v39 v40 v58 v62 (ix2 b 0) = errT A H 0 b := by
  have h : k0_pay44 v34 v37 v38 v39 v40 v58 v62 (ix2 b 0)
      = err (k0_pay39 v34 v39 (ix2 b 0)) (k0_pay42 v37 v38 v39 v40 v58 (ix2 b 0))
          (k0_pay43 v37 v38 v39 v40 v62 (ix2 b 0)) := by
    unfold err half
    pointwise [k0_pay44]
  rw [h, pay39_eq W, pay42_eq W, pay43_eq W, h58, h62, errT]

/-- What the first step adds to the loss. -/
theorem pay45_eq : k0_pay45 v34 v37 v38 v39 v40 v58 v62 = inc A H 0 := by
  have h : k0_pay45 v34 v37 v38 v39 v40 v58 v62
      = half * ∑ b : Fin 256, (k0_pay44 v34 v37 v38 v39 v40 v58 v62 (ix2 b 0)
          * k0_pay44 v34 v37 v38 v39 v40 v58 v62 (ix2 b 0) + k0_pay43 v37 v38 v39 v40 v62 (ix2 b 0)) := by
    unfold half
    pointwise [k0_pay45]
    simp only [Finset.sum_const, Finset.card_univ, Fintype.card_fin, one_smul]
  rw [h]
  simp only [pay44_eq W H v58 v62 h58 h62, pay43_eq W, h62, inc]

/-- The hidden rows the first step leaves. -/
theorem pay47_eq (v41 : Vec Ideal S256x512 .f32) (v52 : FVec Ideal S256x1536 .f32) (hH : ∀ b j, v41 (ix2 b j) = H b j)
    (h52 : ∀ b j, v52 (ix2 b j) = gh A H b j) (b : Fin 256) (j : Fin 512) :
    k0_pay47 v25 v26 v41 v52 (k0_pay39 v34 v39) (k0_pay41 v31 v37 v38 v39) (k0_pay42 v37 v38 v39 v40 v58)
      (k0_pay43 v37 v38 v39 v40 v62) (k0_pay44 v34 v37 v38 v39 v40 v58 v62) (k0_pay46 v31 v37 v38 v39) (ix2 b j)
      = next A H 0 b j := by
  have h : ∀ (v81 : FVec Ideal S256x1 .f32) (v91 : FVec Ideal S256x320 .f32) (v94 v97 v102 : FVec Ideal S256x1 .f32)
      (v110 : FVec Ideal S256x64 .f32) (G : Fin 1536 → EReal),
      (∀ o : Fin 1536, G o = (∑ x : Fin 64, max (v81 (ix2 b 0) * v110 (ix2 b x)
          + v94 (ix2 b 0) * v91 (ix2 b ⟨64 * (1 : Fin 4).val + x.val, by simp; omega⟩)
          + v97 (ix2 b 0) * v91 (ix2 b ⟨64 * (2 : Fin 4).val + x.val, by simp; omega⟩)
          + v102 (ix2 b 0) * v91 (ix2 b ⟨64 * (3 : Fin 4).val + x.val, by simp; omega⟩)
          + v91 (ix2 b ⟨256 + x.val, by omega⟩)) 0 * v25 (ix2 o x)) + v26 (ix1 o)) →
      k0_pay47 v25 v26 v41 v52 v81 v91 v94 v97 v102 v110 (ix2 b j)
        = (1 - Ideal.logistic (G (gate 512 j) + v52 (ix2 b (gate 512 j))))
            * Ideal.tanh (G (gate 1024 j)
              + Ideal.logistic (G (gate 0 j) + v52 (ix2 b (gate 0 j))) * v52 (ix2 b (gate 1024 j)))
          + Ideal.logistic (G (gate 512 j) + v52 (ix2 b (gate 512 j))) * v41 (ix2 b j) := by
    intro v81 v91 v94 v97 v102 v110 G hG
    rw [show gate 0 j = (⟨j.val, by omega⟩ : Fin 1536) from Fin.ext (Nat.zero_add _), hG, hG, hG]
    pointwise [k0_pay47]
  rw [h _ _ _ _ _ _ (gi A H 0 b)]
  · simp only [h52, hH, next, Spec.zz, nn, rr]
  · intro o
    simp only [pay39_eq W, pay46_eq W, pay42_eq W, pay43_eq W, h58, h62, pay44_eq W H v58 v62 h58 h62, pay41_wp W, pay41_bp W,
      W.wi, W.bi, gi, gin]

end Select

end Cert.Payloads

end
-- ==== Proof.Prologue.lean ====
/- What the kernel sets up before its steps: the stacked weights, the concatenated tables, the starting rows. -/
module

public import proofs.«01_k».proof.Proof.Payloads
public import Idealize.ShloMosaic.Lib.Pipeline.Value

@[expose] public section

set_option maxRecDepth 16384

noncomputable section

namespace Cert.Prologue

open Idealize.ShloMosaic Cert.KernelIdeal Cert.KernelIdeal.Gen Cert.Spec Cert.Payloads

/-- The offset of a whole array is zero. -/
theorem off2 : (![0, 0] : Fin 2 → ℕ) = fun _ => 0 := by funext a; fin_cases a <;> rfl

/-- The offset of a whole row is zero. -/
theorem off1 : (![0] : Fin 1 → ℕ) = fun _ => 0 := by funext a; fin_cases a; rfl

/-- What the input windows hold. -/
structure Ins (A : Args) (x0 : Vec Ideal S512x512 .f32) (x1 : Vec Ideal S32x256 .f32) (x2 : Vec Ideal S32x256 .i32)
    (x5 : Vec Ideal S512x512 .f32) (x6 : Vec Ideal S512 .f32) (x7 : Vec Ideal S512x256 .f32) (x8 : Vec Ideal S2x128 .f32)
    (x9 : Vec Ideal S1536x64 .f32) (x10 : Vec Ideal S1536x512 .f32) (x11 x12 : Vec Ideal S1536 .f32)
    (x13 : Vec Ideal S128x256 .f32) (x14 : Vec Ideal S128x64 .f32) : Prop where
  h0 : ∀ (b : Fin 256) (j : Fin 512), x0 (ix2 ⟨b.val, by omega⟩ j) = A.h0 b j
  xs : ∀ (t : Fin 32) (b : Fin 256), x1 (ix2 t b) = A.xs t b
  fs : ∀ (t : Fin 32) (b : Fin 256), x2 (ix2 t b) = BitVec.ofNat 32 (A.fs t b).val
  w1 : ∀ k j : Fin 512, x5 (ix2 k j) = A.W1 k j
  b1 : ∀ j : Fin 512, x6 (ix1 j) = A.b1 j
  w2 : ∀ (j : Fin 512) (c : Fin 256), x7 (ix2 j c) = A.W2 j c
  b2l : ∀ c : Fin 128, x8 (ix2 0 c) = A.b2 (lo c)
  b2h : ∀ c : Fin 128, x8 (ix2 1 c) = A.b2 (hi c)
  wi : ∀ (j : Fin 1536) (k : Fin 64), x9 (ix2 j k) = A.Wih j k
  wh : ∀ (j : Fin 1536) (k : Fin 512), x10 (ix2 j k) = A.Whh j k
  bi : ∀ j : Fin 1536, x11 (ix1 j) = A.bih j
  bh : ∀ j : Fin 1536, x12 (ix1 j) = A.bhh j
  wp : ∀ (f : Fin 128) (i : Fin 4) (j : Fin 64), x13 (ix2 f ⟨64 * i.val + j.val, by omega⟩) = A.wp f i j
  bp : ∀ (f : Fin 128) (j : Fin 64), x14 (ix2 f j) = A.bp f j

/-- The stacked weights. -/
abbrev stacked (arg19 : Memref sig .tc .vmem S2048x512 .f32) (x5 : Vec Ideal S512x512 .f32) (x10 : Vec Ideal S1536x512 .f32) :
    Vec Ideal S2048x512 .f32 :=
  arg19.view.readCov [⟨Rect.unit ![512, 0] ![1536, 512] inb_S2048x512_S1536x512_512_0, k0_pay22 x10⟩,
    ⟨Rect.unit ![0, 0] ![512, 512] inb_S2048x512_S512x512_0_0, k0_pay21 x5⟩]
    (Rect.unit ![0, 0] ![2048, 512] inb_S2048x512_S2048x512_0_0).toLoadRect

/-- The upper half of the turned second layer: the means' columns. -/
abbrev upper (arg20 : Memref sig .tc .vmem S256x512 .f32) (x7 : Vec Ideal S512x256 .f32) : Vec Ideal S128x512 .f32 :=
  arg20.view.readCov [⟨Rect.unit ![0, 0] ![256, 512] inb_S256x512_S256x512_0_0, k0_pay23 x7⟩]
    (Rect.unit ![0, 0] ![128, 512] inb_S256x512_S128x512_0_0).toLoadRect

/-- The lower half: the log-variances' columns. -/
abbrev lower (arg20 : Memref sig .tc .vmem S256x512 .f32) (x7 : Vec Ideal S512x256 .f32) : Vec Ideal S128x512 .f32 :=
  arg20.view.readCov [⟨Rect.unit ![0, 0] ![256, 512] inb_S256x512_S256x512_0_0, k0_pay23 x7⟩]
    (Rect.unit ![128, 0] ![128, 512] inb_S256x512_S128x512_128_0).toLoadRect

/-- The concatenated tables. -/
abbrev table (arg20 : Memref sig .tc .vmem S256x512 .f32) (x7 : Vec Ideal S512x256 .f32) (x13 : Vec Ideal S128x256 .f32)
    (x14 : Vec Ideal S128x64 .f32) : FVec Ideal S128x1344 .f32 :=
  k0_pay26 (k0_pay24
    (upper arg20 x7) (lower arg20 x7)) x13 x14

/-- The starting rows, as the kernel's copy holds them. -/
abbrev start (arg18 : Memref sig .tc .vmem S256x512 .f32) (x0 : Vec Ideal S512x512 .f32) : Vec Ideal S256x512 .f32 :=
  arg18.view.readCov [⟨Rect.unit ![0, 0] ![256, 512] inb_S256x512_S256x512_0_0,
      k0_pay20 (View.ld x0 (Rect.unit ![0, 0] ![256, 512] inb_S512x512_S256x512_0_0))⟩]
    (Rect.unit ![0, 0] ![256, 512] inb_S256x512_S256x512_0_0).toLoadRect

section Stack

variable (arg19 : Memref sig .tc .vmem S2048x512 .f32) (x5 : Vec Ideal S512x512 .f32) (x10 : Vec Ideal S1536x512 .f32)

/-- The first 512 rows of the stack are the first layer's weights, turned over. -/
theorem stacked_lo (j k : Fin 512) : stacked arg19 x5 x10 (ix2 ⟨j.val, by omega⟩ k) = x5 (ix2 k j) := by
  have e : (Rect.unit (s := S2048x512) ![0, 0] ![2048, 512] inb_S2048x512_S2048x512_0_0).toLoadRect.idx
      (ix2 ⟨j.val, by omega⟩ k)
      = (Rect.unit (s := S2048x512) ![0, 0] ![512, 512] inb_S2048x512_S512x512_0_0).emb (ix2 j k) := by
    funext a; fin_cases a <;> exact Fin.ext (by simp [ix2])
  unfold stacked
  rw [View.readCov_eq_canon']
  dsimp only
  rw [e, View.canon_cons_of_not_mem, View.canon_cons_emb]
  · pointwise [k0_pay21]
  · rw [← e, Rect.mem_set_unit]
    intro h
    have := h 0
    simp [ix2] at this
    omega

/-- The further 1536 rows of the stack are the gates' weights. -/
theorem stacked_hi (j : Fin 1536) (k : Fin 512) : stacked arg19 x5 x10 (ix2 ⟨512 + j.val, by omega⟩ k) = x10 (ix2 j k) := by
  have e : (Rect.unit (s := S2048x512) ![0, 0] ![2048, 512] inb_S2048x512_S2048x512_0_0).toLoadRect.idx
      (ix2 ⟨512 + j.val, by omega⟩ k)
      = (Rect.unit (s := S2048x512) ![512, 0] ![1536, 512] inb_S2048x512_S1536x512_512_0).emb (ix2 j k) := by
    funext a; fin_cases a <;> exact Fin.ext (by simp [ix2])
  unfold stacked
  rw [View.readCov_eq_canon']
  dsimp only
  rw [e, View.canon_cons_emb]
  pointwise [k0_pay22]

end Stack

section Table

variable (arg20 : Memref sig .tc .vmem S256x512 .f32) (x7 : Vec Ideal S512x256 .f32) (x13 : Vec Ideal S128x256 .f32)
  (x14 : Vec Ideal S128x64 .f32) (f : Fin 128)

/-- The upper half of the second layer's weights, turned over. -/
theorem half_lo (j : Fin 512) :
    upper arg20 x7 (ix2 f j) = x7 (ix2 j (lo f)) := by
  have e : (Rect.unit (s := S256x512) ![0, 0] ![128, 512] inb_S256x512_S128x512_0_0).toLoadRect.idx (ix2 f j)
      = ix2 (lo f) j := by
    funext a; fin_cases a <;> exact Fin.ext (by simp [ix2])
  unfold upper
  rw [View.readCov_eq_canon']
  dsimp only
  rw [e, View.canon_unit_zero (S := S256x512) off2]
  pointwise [k0_pay23]

/-- The lower half. -/
theorem half_hi (j : Fin 512) :
    lower arg20 x7 (ix2 f j) = x7 (ix2 j (hi f)) := by
  have e : (Rect.unit (s := S256x512) ![128, 0] ![128, 512] inb_S256x512_S128x512_128_0).toLoadRect.idx (ix2 f j)
      = ix2 (hi f) j := by
    funext a; fin_cases a <;> exact Fin.ext (by simp [ix2])
  unfold lower
  rw [View.readCov_eq_canon']
  dsimp only
  rw [e, View.canon_unit_zero (S := S256x512) off2]
  pointwise [k0_pay23]

/-- The means' columns. -/
theorem table_lo (j : Fin 512) : table arg20 x7 x13 x14 (ix2 f ⟨j.val, by omega⟩) = x7 (ix2 j (lo f)) := by
  rw [← half_lo arg20 x7 f j]
  unfold table
  generalize upper arg20 x7 = u
  generalize lower arg20 x7 = l
  pointwise [k0_pay26, k0_pay24]
  rw [dif_pos (by omega)]

/-- The log-variances' columns. -/
theorem table_hi (j : Fin 512) : table arg20 x7 x13 x14 (ix2 f ⟨512 + j.val, by omega⟩) = x7 (ix2 j (hi f)) := by
  rw [← half_hi arg20 x7 f j]
  unfold table
  generalize upper arg20 x7 = u
  generalize lower arg20 x7 = l
  pointwise [k0_pay26, k0_pay24]
  rw [dif_pos (by omega)]

/-- The preparation weights' columns. -/
theorem table_wp (j : Fin 256) : table arg20 x7 x13 x14 (ix2 f ⟨1024 + j.val, by omega⟩) = x13 (ix2 f j) := by
  unfold table
  generalize upper arg20 x7 = u
  generalize lower arg20 x7 = l
  pointwise [k0_pay26]

/-- The preparation biases' columns. -/
theorem table_bp (j : Fin 64) : table arg20 x7 x13 x14 (ix2 f ⟨1280 + j.val, by omega⟩) = x14 (ix2 f j) := by
  unfold table
  generalize upper arg20 x7 = u
  generalize lower arg20 x7 = l
  pointwise [k0_pay26]
  rw [dif_neg (by omega), dif_neg (by omega)]
  congr 2
  exact Fin.ext (by simp; omega)

end Table

/-- The kernel's copy of the starting rows. -/
theorem start_eq (arg18 : Memref sig .tc .vmem S256x512 .f32) (x0 : Vec Ideal S512x512 .f32) (b : Fin 256) (j : Fin 512) :
    start arg18 x0 (ix2 b j) = x0 (ix2 ⟨b.val, by omega⟩ j) := by
  unfold start
  rw [View.readCov_unit_zero (S := S256x512) _ off2]
  have h : k0_pay20 (View.ld x0 (Rect.unit ![0, 0] ![256, 512] inb_S512x512_S256x512_0_0)) (ix2 b j)
      = View.ld x0 (Rect.unit ![0, 0] ![256, 512] inb_S512x512_S256x512_0_0) (ix2 b j) := by
    pointwise [k0_pay20]
  rw [h]
  show x0 _ = x0 _
  congr 1
  funext a; fin_cases a <;> exact Fin.ext (by simp [ix2])

/-- The words set up hold what the steps need. -/
theorem words {A : Args} {x0 : Vec Ideal S512x512 .f32} {x1 : Vec Ideal S32x256 .f32} {x2 : Vec Ideal S32x256 .i32}
    {x5 : Vec Ideal S512x512 .f32} {x6 : Vec Ideal S512 .f32} {x7 : Vec Ideal S512x256 .f32} {x8 : Vec Ideal S2x128 .f32}
    {x9 : Vec Ideal S1536x64 .f32} {x10 : Vec Ideal S1536x512 .f32} {x11 x12 : Vec Ideal S1536 .f32}
    {x13 : Vec Ideal S128x256 .f32} {x14 : Vec Ideal S128x64 .f32}
    (I : Ins A x0 x1 x2 x5 x6 x7 x8 x9 x10 x11 x12 x13 x14)
    (arg19 : Memref sig .tc .vmem S2048x512 .f32) (arg20 : Memref sig .tc .vmem S256x512 .f32) :
    Words A (stacked arg19 x5 x10) x6 (k0_pay25 x8) x9 x11 x12 (table arg20 x7 x13 x14) (k0_pay27 x1) (k0_pay28 x2)
      (iota .tc S256x128 32 [1] iota_S256x128_d1_w32) (iota .tc S256x32 32 [1] iota_S256x32_d1_w32) k0_pay29 where
  w1 j k := by rw [stacked_lo, I.w1]
  wh j k := by rw [stacked_hi, I.wh]
  b1 := I.b1
  b2l c := by
    rw [← I.b2l]; pointwise [k0_pay25]
  b2h c := by
    rw [← I.b2h]; pointwise [k0_pay25]
  wi := I.wi
  bi := I.bi
  bh := I.bh
  w2l f j := by rw [table_lo, I.w2]
  w2h f j := by rw [table_hi, I.w2]
  wp f i j := by rw [← I.wp]; exact table_wp arg20 x7 x13 x14 f ⟨64 * i.val + j.val, by omega⟩
  bp f j := by rw [table_bp, I.bp]
  xs b t := by
    rw [← I.xs]; pointwise [k0_pay27]
  fs b t := by
    rw [← I.fs]; pointwise [k0_pay28]
  co b c := by pointwise []
  ct b t := by pointwise []
  zz b c := by pointwise [k0_pay29]

end Cert.Prologue

end
-- ==== Proof.Outs.lean ====
/- What one run of the kernel leaves in its three outputs, from what its input windows hold. -/
module

public import proofs.«01_k».proof.Proof.Trip
public import proofs.«01_k».proof.Proof.First
public import proofs.«01_k».proof.Proof.Prologue

@[expose] public section

set_option maxRecDepth 16384

noncomputable section

namespace Cert.Outs

open Idealize.ShloMosaic Idealize.SL.Sem Cert.KernelIdeal Cert.KernelIdeal.Gen Cert.Spec Cert.Payloads Cert.Prologue Cert.Trip

/-- The loop has 31 trips. -/
theorem trips_eq : Scf.trips k0_t1_loop.lb k0_t1_loop.ub k0_t1_loop.st = 31 := by decide

variable {A : Args} (c : Dev nD)
  (arg0 : Memref sig .tc .vmem S512x512 .f32) (harg0 : arg0.IsWhole) (arg1 : Memref sig .tc .vmem S32x256 .f32) (harg1
  : arg1.IsWhole) (arg2 : Memref sig .tc .vmem S32x256 .i32) (harg2 : arg2.IsWhole) (arg3 : Memref sig .tc .vmem
  S256x128 .f32) (harg3 : arg3.IsWhole) (arg4 : Memref sig .tc .vmem S256x128 .f32) (harg4 : arg4.IsWhole) (arg5 :
  Memref sig .tc .vmem S512x512 .f32) (harg5 : arg5.IsWhole) (arg6 : Memref sig .tc .vmem S512 .f32) (harg6 :
  arg6.IsWhole) (arg7 : Memref sig .tc .vmem S512x256 .f32) (harg7 : arg7.IsWhole) (arg8 : Memref sig .tc .vmem S2x128
  .f32) (harg8 : arg8.IsWhole) (arg9 : Memref sig .tc .vmem S1536x64 .f32) (harg9 : arg9.IsWhole) (arg10 : Memref sig
  .tc .vmem S1536x512 .f32) (harg10 : arg10.IsWhole) (arg11 : Memref sig .tc .vmem S1536 .f32) (harg11 :
  arg11.IsWhole) (arg12 : Memref sig .tc .vmem S1536 .f32) (harg12 : arg12.IsWhole) (arg13 : Memref sig .tc .vmem
  S128x256 .f32) (harg13 : arg13.IsWhole) (arg14 : Memref sig .tc .vmem S128x64 .f32) (harg14 : arg14.IsWhole) (arg15
  : Memref sig .tc .vmem S512x512 .f32) (harg15 : arg15.IsWhole) (arg16 : Memref sig .tc .smem S1x1 .f32) (harg16 :
  arg16.IsWhole) (arg17 : Memref sig .tc .vmem S256x128 .f32) (harg17 : arg17.IsWhole) (arg18 : Memref sig .tc .vmem
  S256x512 .f32) (harg18 : arg18.IsWhole) (arg19 : Memref sig .tc .vmem S2048x512 .f32) (harg19 : arg19.IsWhole)
  (arg20 : Memref sig .tc .vmem S256x512 .f32) (harg20 : arg20.IsWhole)
  (x0 : Vec Ideal S512x512 .f32) (x1 : Vec Ideal S32x256 .f32) (x2 : Vec Ideal S32x256 .i32) (x3 : Vec Ideal S256x128
  .f32) (x4 : Vec Ideal S256x128 .f32) (x5 : Vec Ideal S512x512 .f32) (x6 : Vec Ideal S512 .f32) (x7 : Vec Ideal
  S512x256 .f32) (x8 : Vec Ideal S2x128 .f32) (x9 : Vec Ideal S1536x64 .f32) (x10 : Vec Ideal S1536x512 .f32) (x11 :
  Vec Ideal S1536 .f32) (x12 : Vec Ideal S1536 .f32) (x13 : Vec Ideal S128x256 .f32) (x14 : Vec Ideal S128x64 .f32)
  (I : Ins A x0 x1 x2 x5 x6 x7 x8 x9 x10 x11 x12 x13 x14)

include I

/-- The copy of the rows after the first step. -/
theorem first_rows (b : Fin 256) (j : Fin 512) :
    k0_pay47 x9 x11 (start arg18 x0) (k0_pay31 (stacked arg19 x5 x10) x12 (start arg18 x0))
      (k0_pay39 (k0_pay27 x1) (iota .tc S256x32 32 [1] iota_S256x32_d1_w32))
      (k0_pay41 (table arg20 x7 x13 x14) (k0_pay28 x2) (iota .tc S256x128 32 [1] iota_S256x128_d1_w32)
        (iota .tc S256x32 32 [1] iota_S256x32_d1_w32))
      (k0_pay42 (k0_pay28 x2) (iota .tc S256x128 32 [1] iota_S256x128_d1_w32) (iota .tc S256x32 32 [1] iota_S256x32_d1_w32)
        k0_pay29 (k0_pay33 (stacked arg19 x5 x10) x6 (k0_pay25 x8) (start arg18 x0) x7))
      (k0_pay43 (k0_pay28 x2) (iota .tc S256x128 32 [1] iota_S256x128_d1_w32) (iota .tc S256x32 32 [1] iota_S256x32_d1_w32)
        k0_pay29 (k0_pay34 (stacked arg19 x5 x10) x6 (k0_pay25 x8) (start arg18 x0) x7))
      (k0_pay44 (k0_pay27 x1) (k0_pay28 x2) (iota .tc S256x128 32 [1] iota_S256x128_d1_w32)
        (iota .tc S256x32 32 [1] iota_S256x32_d1_w32) k0_pay29
        (k0_pay33 (stacked arg19 x5 x10) x6 (k0_pay25 x8) (start arg18 x0) x7)
        (k0_pay34 (stacked arg19 x5 x10) x6 (k0_pay25 x8) (start arg18 x0) x7))
      (k0_pay46 (table arg20 x7 x13 x14) (k0_pay28 x2) (iota .tc S256x128 32 [1] iota_S256x128_d1_w32)
        (iota .tc S256x32 32 [1] iota_S256x32_d1_w32)) (ix2 b j) = (iter A 1).1 b j := by
  have W := words I arg19 arg20
  have hH : ∀ b j, start arg18 x0 (ix2 b j) = A.h0 b j := fun b j => by rw [start_eq, I.h0]
  rw [iter_succ A 0 (by norm_num)]
  exact pay47_eq W A.h0 _ _ (pay33_eq W A.h0 _ _ hH I.w2) (pay34_eq W A.h0 _ _ hH I.w2) _ _ hH (pay31_eq W A.h0 _ hH) b j

/-- The loss after the first step. -/
theorem first_loss :
    k0_pay45 (k0_pay27 x1) (k0_pay28 x2) (iota .tc S256x128 32 [1] iota_S256x128_d1_w32)
        (iota .tc S256x32 32 [1] iota_S256x32_d1_w32) k0_pay29
        (k0_pay33 (stacked arg19 x5 x10) x6 (k0_pay25 x8) (start arg18 x0) x7)
        (k0_pay34 (stacked arg19 x5 x10) x6 (k0_pay25 x8) (start arg18 x0) x7) = (iter A 1).2 := by
  have W := words I arg19 arg18
  have hH : ∀ b j, start arg18 x0 (ix2 b j) = A.h0 b j := fun b j => by rw [start_eq, I.h0]
  rw [iter_succ A 0 (by norm_num)]
  refine (pay45_eq W A.h0 _ _ (pay33_eq W A.h0 _ _ hH I.w2) (pay34_eq W A.h0 _ _ hH I.w2)).trans ?_
  exact (zero_add _).symm

/-- The loss. -/
theorem out16_eq (i : S1x1.Idx) : out0_A_16 (F := Ideal) c
      arg0 harg0 arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 x0 x1 x2 x3 x4 x5 x6 x7 x8 x9 x10 x11 x12 x13 x14 i = (iter A 32).2 := by
  unfold out0_A_16
  rw [View.read_writes_eq_canon _ _ _ (cover0_A_16 c
      arg0 harg0 arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 x0 x1 x2 x3 x4 x5 x6 x7 x8 x9 x10 x11 x12 x13 x14)]
  unfold kernelRun0_A
  dsimp only
  rw [View.canon_unit_zero (S := S1x1) off2, trips_eq]
  sl_unfold_words
  simp only [View.readAt_eq_ld,
    harg0.read_unread, harg1.read_unread, harg2.read_unread, harg3.read_unread, harg4.read_unread,
    harg5.read_unread, harg6.read_unread, harg7.read_unread, harg8.read_unread, harg9.read_unread,
    harg10.read_unread, harg11.read_unread, harg12.read_unread, harg13.read_unread, harg14.read_unread,
    View.ld_unit_zero (S := S512x512) off2, View.ld_unit_zero (S := S32x256) off2, View.ld_unit_zero (S := S512x256) off2,
    View.ld_unit_zero (S := S2x128) off2, View.ld_unit_zero (S := S1536x64) off2, View.ld_unit_zero (S := S1536x512) off2,
    View.ld_unit_zero (S := S128x256) off2, View.ld_unit_zero (S := S128x64) off2, View.ld_unit_zero (S := S256x128) off2,
    View.ld_unit_zero (S := S1536) off1, View.ld_unit_zero (S := S512) off1]
  refine (state_eq Variants.none c none
      _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ (words I arg19 arg20) _ _ ?_ ?_ 31 (by decide)).1
  · exact first_loss (I := I) ..
  · intro b j
    exact (congrFun (View.readAt_writes_full arg18.view _ inb_S256x512_S256x512_0_0 inb_S256x512_S256x512_0_0 _ _) (ix2 b j)).trans
      (first_rows (I := I) ..)

/-- The first losses. -/
theorem out17_eq (b : Fin 256) (m : Fin 128) : out0_A_17 (F := Ideal) c
      arg0 harg0 arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 x0 x1 x2 x3 x4 x5 x6 x7 x8 x9 x10 x11 x12 x13 x14 (ix2 b m) = pre A (x3 (ix2 b m)) (x4 (ix2 b m)) b m := by
  unfold out0_A_17
  rw [View.read_writes_eq_canon _ _ _ (cover0_A_17 c
      arg0 harg0 arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 x0 x1 x2 x3 x4 x5 x6 x7 x8 x9 x10 x11 x12 x13 x14)]
  unfold kernelRun0_A
  dsimp only
  sl_unfold_words
  rw [View.canon_unit_zero (S := S256x128) off2]
  simp only [View.readAt_eq_ld,
    harg0.read_unread, harg1.read_unread, harg2.read_unread, harg3.read_unread, harg4.read_unread,
    harg5.read_unread, harg6.read_unread, harg7.read_unread, harg8.read_unread, harg9.read_unread,
    harg10.read_unread, harg11.read_unread, harg12.read_unread, harg13.read_unread, harg14.read_unread,
    View.ld_unit_zero (S := S512x512) off2, View.ld_unit_zero (S := S32x256) off2, View.ld_unit_zero (S := S512x256) off2,
    View.ld_unit_zero (S := S2x128) off2, View.ld_unit_zero (S := S1536x64) off2, View.ld_unit_zero (S := S1536x512) off2,
    View.ld_unit_zero (S := S128x256) off2, View.ld_unit_zero (S := S128x64) off2, View.ld_unit_zero (S := S256x128) off2,
    View.ld_unit_zero (S := S1536) off1, View.ld_unit_zero (S := S512) off1]
  have W := words I arg19 arg18
  have hH : ∀ b j, start arg18 x0 (ix2 b j) = A.h0 b j := fun b j => by rw [start_eq, I.h0]
  exact pay37_eq W A.h0 _ _ hH I.w2 x3 x4 rfl b m

/-- The hidden rows: the rows the steps work on at what they leave, the rest as they were. -/
theorem out15_hit (b : Fin 256) (j : Fin 512) : out0_A_15 (F := Ideal) c
      arg0 harg0 arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 x0 x1 x2 x3 x4 x5 x6 x7 x8 x9 x10 x11 x12 x13 x14 (ix2 ⟨b.val, by omega⟩ j) = (iter A 32).1 b j := by
  unfold out0_A_15
  rw [View.read_writes_eq_canon _ _ _ (cover0_A_15 c
      arg0 harg0 arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 x0 x1 x2 x3 x4 x5 x6 x7 x8 x9 x10 x11 x12 x13 x14)]
  unfold kernelRun0_A
  dsimp only
  have e : (ix2 ⟨b.val, by omega⟩ j : S512x512.Idx)
      = (Rect.unit (s := S512x512) ![0, 0] ![256, 512] inb_S512x512_S256x512_0_0).emb (ix2 b j) := by
    funext a; fin_cases a <;> exact Fin.ext (by simp [ix2])
  rw [View.canon_cons_of_not_mem, e, View.canon_cons_emb]
  · sl_unfold_words
    rw [trips_eq]
    simp only [View.readAt_eq_ld,
      harg0.read_unread, harg1.read_unread, harg2.read_unread, harg3.read_unread, harg4.read_unread,
      harg5.read_unread, harg6.read_unread, harg7.read_unread, harg8.read_unread, harg9.read_unread,
      harg10.read_unread, harg11.read_unread, harg12.read_unread, harg13.read_unread, harg14.read_unread,
      View.ld_unit_zero (S := S512x512) off2, View.ld_unit_zero (S := S32x256) off2, View.ld_unit_zero (S := S512x256) off2,
      View.ld_unit_zero (S := S2x128) off2, View.ld_unit_zero (S := S1536x64) off2, View.ld_unit_zero (S := S1536x512) off2,
      View.ld_unit_zero (S := S128x256) off2, View.ld_unit_zero (S := S128x64) off2, View.ld_unit_zero (S := S256x128) off2,
      View.ld_unit_zero (S := S1536) off1, View.ld_unit_zero (S := S512) off1]
    unfold View.readCov
    rw [View.writes_append]
    refine (state_eq Variants.none c none
      _ _ _ _ _ _ _ _ _ _ _ _ _ _ _ _ _ _ _ _ _ _ _ _ _ _ _ _ _ _ _ _ _ _ _ _ _ _ _ _ _ _ _ _ _ _ _ _ _ _ _ _ _ _ _ _
      _ _ _ _ _ _ _ (words I arg19 arg20) _ _ ?_ ?_ 31 (by decide)).2 b j
    · exact first_loss (I := I) ..
    · intro b j
      exact (congrFun (View.readAt_writes_full arg18.view _ inb_S256x512_S256x512_0_0 inb_S256x512_S256x512_0_0 _ _) (ix2 b j)).trans
        (first_rows (I := I) ..)
  · rw [Rect.mem_set_unit]
    intro h
    have := h 0
    simp [ix2] at this
    omega

omit I in
/-- The rows no step works on. -/
theorem out15_miss (b : Fin 256) (j : Fin 512) : out0_A_15 (F := Ideal) c
      arg0 harg0 arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 x0 x1 x2 x3 x4 x5 x6 x7 x8 x9 x10 x11 x12 x13 x14 (ix2 ⟨256 + b.val, by omega⟩ j) = x0 (ix2 ⟨256 + b.val, by omega⟩ j) := by
  unfold out0_A_15
  rw [View.read_writes_eq_canon _ _ _ (cover0_A_15 c
      arg0 harg0 arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 x0 x1 x2 x3 x4 x5 x6 x7 x8 x9 x10 x11 x12 x13 x14)]
  unfold kernelRun0_A
  dsimp only
  have e : (ix2 ⟨256 + b.val, by omega⟩ j : S512x512.Idx)
      = (Rect.unit (s := S512x512) ![256, 0] ![256, 512] inb_S512x512_S256x512_256_0).emb (ix2 b j) := by
    funext a; fin_cases a <;> exact Fin.ext (by simp [ix2])
  rw [e, View.canon_cons_emb]
  simp only [View.readAt_eq_ld, harg0.read_unread]
  rfl

end Cert.Outs

end
-- ==== Proof.Inputs.lean ====
/- The argument arrays as the numbers of `Cert.Spec`, and what the three results are. -/
module

public import proofs.«01_k».proof.Proof.Spec
public import proofs.«01_k».proof.Proof.Gen.Pre_pre
public import Idealize.ShloMosaic.Lib.StableHlo.Predicate
public import Idealize.ShloMosaic.Lib.ReduceAll

@[expose] public section

set_option maxRecDepth 16384

noncomputable section

namespace Cert.Inputs

open Idealize.ShloMosaic Cert.Spec Cert.Pre_pre

/-- Place `256 t + b` of the flat observations: step `t`, row `b`. -/
abbrev flat (t : Fin 32) (b : Fin 256) : Fin 8192 := ⟨256 * t.val + b.val, by omega⟩

/-- The argument arrays read at their coordinates; a feature number is its word's value below 128. -/
def argsOf (a0 : FVec Ideal S512x512 .f32) (a1 : FVec Ideal S8192 .f32) (a2 : IVec S8192 32) (a6 : FVec Ideal S512x512 .f32)
    (a7 : FVec Ideal S512 .f32) (a8 : FVec Ideal S512x256 .f32) (a9 : FVec Ideal S256 .f32) (a10 : FVec Ideal S1536x64 .f32)
    (a11 : FVec Ideal S1536x512 .f32) (a12 a13 : FVec Ideal S1536 .f32) (a14 : FVec Ideal S128x4x64 .f32)
    (a15 : FVec Ideal S128x64 .f32) : Args where
  h0 b j := a0 (ix2 ⟨b.val, by omega⟩ j)
  xs t b := a1 (ix1 (flat t b))
  fs t b := ⟨(a2 (ix1 (flat t b))).toNat % 128, Nat.mod_lt _ (by decide)⟩
  W1 k j := a6 (ix2 k j)
  b1 j := a7 (ix1 j)
  W2 j c := a8 (ix2 j c)
  b2 c := a9 (ix1 c)
  Wih j k := a10 (ix2 j k)
  Whh j k := a11 (ix2 j k)
  bih j := a12 (ix1 j)
  bhh j := a13 (ix1 j)
  wp f i j := a14 (ix3 f i j)
  bp f j := a15 (ix2 f j)

/-- What the precondition says: the feature numbers lie below 128 and the observed rows are the first 256 in order. -/
structure Good (a2 : IVec S8192 32) (a3 : IVec S256 32) : Prop where
  feat : ∀ k, (a2 k).toNat < 128
  rows : ∀ k, a3 k = BitVec.ofNat 32 (k 0).val

/-- The hidden rows after the call: the first 256 are what 32 steps make of them, the others as they were. -/
def outH (A : Args) (a0 : FVec Ideal S512x512 .f32) : FVec Ideal S512x512 .f32 := fun i =>
  if h : (i 0).val < 256 then (iter A 32).1 ⟨(i 0).val, h⟩ ⟨(i 1).val, (i 1).isLt⟩ else a0 i

/-- The loss summed over the steps. -/
def outL (A : Args) : FVec Ideal (⟨2, ![1, 1]⟩ : Shape) .f32 := fun _ => (iter A 32).2

/-- The losses before the first step, weighted by the mask. -/
def outP (A : Args) (a4 a5 : FVec Ideal S256x128 .f32) : FVec Ideal S256x128 .f32 := fun i =>
  pre A (a4 i) (a5 i) ⟨(i 0).val, (i 0).isLt⟩ ⟨(i 1).val, (i 1).isLt⟩

/-- A word that is at least 0 and below 128 as a signed number is below 128 as a natural one. -/
theorem word_lt (x : BitVec 32) (h0 : ¬ x.slt 0#32) (h1 : x.slt 128#32) : x.toNat < 128 := by
  simp only [BitVec.slt, decide_eq_true_eq, BitVec.toInt] at h0 h1
  simp at h0 h1
  omega

/-- The precondition, decoded. -/
theorem good_of_fn (a0 : FVec Ideal S512x512 .f32) (a1 : FVec Ideal S8192 .f32) (a2 : IVec S8192 32) (a3 : IVec S256 32)
    (a4 a5 : FVec Ideal S256x128 .f32) (a6 : FVec Ideal S512x512 .f32)
    (a7 : FVec Ideal S512 .f32) (a8 : FVec Ideal S512x256 .f32) (a9 : FVec Ideal S256 .f32) (a10 : FVec Ideal S1536x64 .f32)
    (a11 : FVec Ideal S1536x512 .f32) (a12 a13 : FVec Ideal S1536 .f32) (a14 : FVec Ideal S128x4x64 .f32)
    (a15 : FVec Ideal S128x64 .f32)
    (h : Cert.Pre_pre.fn (F := Ideal) a0 a1 a2 a3 a4 a5 a6 a7 a8 a9 a10 a11 a12 a13 a14 a15 = fun _ => 1#1) : Good a2 a3 := by
  have e := congrFun h ix0
  dsimp only [fn] at e
  obtain ⟨e, e3⟩ := IntOp.andi_eq_one.1 e
  obtain ⟨e1, e2⟩ := IntOp.andi_eq_one.1 e
  refine ⟨fun k => ?_, fun k => ?_⟩
  · have h2 := Host.reduce_andi_all _ _ _ _ _ e2 k
    have h3 := Host.reduce_andi_all _ _ _ _ _ e3 k
    simp only [cmpi, IntOp.cmpi, broadcastInDim, constantI, StableHlo.Predicate.ofBool_eq_one_iff] at h2 h3
    exact word_lt _ (by simpa [BitVec.slt, BitVec.sle] using h2) h3
  · have h1 := Host.reduce_andi_all _ _ _ _ _ e1 k
    simp only [cmpi, iotaInDim] at h1
    exact StableHlo.Predicate.cmpi_eq_iff.1 h1

end Cert.Inputs

end
-- ==== Proof.Final.lean ====
/- What the kernel's windows hold: the argument arrays' numbers. -/
module

public import proofs.«01_k».proof.Proof.Outs
public import proofs.«01_k».proof.Proof.Inputs
public import proofs.«01_k».proof.Proof.Gen.KernelIdeal.Value
public import Idealize.ShloMosaic.Lib.Pipeline.ValueKit

@[expose] public section

set_option maxRecDepth 16384

noncomputable section

namespace Cert.Final

open Idealize.ShloMosaic Idealize.ShloMosaic.TcCoe Idealize.SL.Sem Cert.KernelIdeal Cert.KernelIdeal.Gen Cert.Spec Cert.Prologue Cert.Inputs

variable (m : (ℓ : Loc nD τ sig) → Buf (Elt Ideal) ℓ) (c : Dev nD)

/-- The numbers in the kernel's argument arrays. -/
abbrev args : Args :=
  argsOf (m ((c : Thread nD τ).loc main_arg0)) (m ((c : Thread nD τ).loc main_arg1)) (m ((c : Thread nD τ).loc main_arg2))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15))

/-! Every window's block has number 0 along each axis. -/

theorem ix_0 (t : Fin cfg0.N) (a : Fin 2) : win0_0.index t a = 0 := rfl
theorem ix_1 (t : Fin cfg0.N) (a : Fin 2) : win0_1.index t a = 0 := rfl
theorem ix_2 (t : Fin cfg0.N) (a : Fin 2) : win0_2.index t a = 0 := rfl
theorem ix_3 (t : Fin cfg0.N) (a : Fin 2) : win0_3.index t a = 0 := rfl
theorem ix_4 (t : Fin cfg0.N) (a : Fin 2) : win0_4.index t a = 0 := rfl
theorem ix_5 (t : Fin cfg0.N) (a : Fin 2) : win0_5.index t a = 0 := rfl
theorem ix_6 (t : Fin cfg0.N) (a : Fin 1) : win0_6.index t a = 0 := rfl
theorem ix_7 (t : Fin cfg0.N) (a : Fin 2) : win0_7.index t a = 0 := rfl
theorem ix_8 (t : Fin cfg0.N) (a : Fin 2) : win0_8.index t a = 0 := rfl
theorem ix_9 (t : Fin cfg0.N) (a : Fin 2) : win0_9.index t a = 0 := rfl
theorem ix_10 (t : Fin cfg0.N) (a : Fin 2) : win0_10.index t a = 0 := rfl
theorem ix_11 (t : Fin cfg0.N) (a : Fin 1) : win0_11.index t a = 0 := rfl
theorem ix_12 (t : Fin cfg0.N) (a : Fin 1) : win0_12.index t a = 0 := rfl
theorem ix_13 (t : Fin cfg0.N) (a : Fin 2) : win0_13.index t a = 0 := rfl
theorem ix_14 (t : Fin cfg0.N) (a : Fin 2) : win0_14.index t a = 0 := rfl
theorem ix_15 (t : Fin cfg0.N) (a : Fin 2) : win0_15.index t a = 0 := rfl
theorem ix_16 (t : Fin cfg0.N) (a : Fin 2) : win0_16.index t a = 0 := rfl
theorem ix_17 (t : Fin cfg0.N) (a : Fin 2) : win0_17.index t a = 0 := rfl

/-- Window 0 holds argument 0. -/
theorem blk0 (t : Fin cfg0.N) (i : S512x512.Idx) : (iblk m c 0 t : Vec Ideal S512x512 .f32) i = m ((c : Thread nD τ).loc main_arg0) i := by
  blk_ext [iblk, V, ix_0 t]

/-- Window 3 holds argument 4. -/
theorem blk3 (t : Fin cfg0.N) (i : S256x128.Idx) : (iblk m c 3 t : Vec Ideal S256x128 .f32) i = m ((c : Thread nD τ).loc main_arg4) i := by
  blk_ext [iblk, V, ix_3 t]

/-- Window 4 holds argument 5. -/
theorem blk4 (t : Fin cfg0.N) (i : S256x128.Idx) : (iblk m c 4 t : Vec Ideal S256x128 .f32) i = m ((c : Thread nD τ).loc main_arg5) i := by
  blk_ext [iblk, V, ix_4 t]

/-- Window 5 holds argument 6. -/
theorem blk5 (t : Fin cfg0.N) (i : S512x512.Idx) : (iblk m c 5 t : Vec Ideal S512x512 .f32) i = m ((c : Thread nD τ).loc main_arg6) i := by
  blk_ext [iblk, V, ix_5 t]

/-- Window 6 holds argument 7. -/
theorem blk6 (t : Fin cfg0.N) (i : S512.Idx) : (iblk m c 6 t : Vec Ideal S512 .f32) i = m ((c : Thread nD τ).loc main_arg7) i := by
  blk_ext [iblk, V, ix_6 t]

/-- Window 7 holds argument 8. -/
theorem blk7 (t : Fin cfg0.N) (i : S512x256.Idx) : (iblk m c 7 t : Vec Ideal S512x256 .f32) i = m ((c : Thread nD τ).loc main_arg8) i := by
  blk_ext [iblk, V, ix_7 t]

/-- Window 9 holds argument 10. -/
theorem blk9 (t : Fin cfg0.N) (i : S1536x64.Idx) : (iblk m c 9 t : Vec Ideal S1536x64 .f32) i = m ((c : Thread nD τ).loc main_arg10) i := by
  blk_ext [iblk, V, ix_9 t]

/-- Window 10 holds argument 11. -/
theorem blk10 (t : Fin cfg0.N) (i : S1536x512.Idx) : (iblk m c 10 t : Vec Ideal S1536x512 .f32) i = m ((c : Thread nD τ).loc main_arg11) i := by
  blk_ext [iblk, V, ix_10 t]

/-- Window 11 holds argument 12. -/
theorem blk11 (t : Fin cfg0.N) (i : S1536.Idx) : (iblk m c 11 t : Vec Ideal S1536 .f32) i = m ((c : Thread nD τ).loc main_arg12) i := by
  blk_ext [iblk, V, ix_11 t]

/-- Window 12 holds argument 13. -/
theorem blk12 (t : Fin cfg0.N) (i : S1536.Idx) : (iblk m c 12 t : Vec Ideal S1536 .f32) i = m ((c : Thread nD τ).loc main_arg13) i := by
  blk_ext [iblk, V, ix_12 t]

/-- Window 14 holds argument 15. -/
theorem blk14 (t : Fin cfg0.N) (i : S128x64.Idx) : (iblk m c 14 t : Vec Ideal S128x64 .f32) i = m ((c : Thread nD τ).loc main_arg15) i := by
  blk_ext [iblk, V, ix_14 t]

/-- Window 1 holds the observations, a row per step. -/
theorem blk1 (t : Fin cfg0.N) (s : Fin 32) (b : Fin 256) :
    (iblk m c 1 t : Vec Ideal S32x256 .f32) (ix2 s b) = m ((c : Thread nD τ).loc main_arg1) (ix1 (flat s b)) := by
  blk_simp [iblk, ix_1 t]; entry_read; pointwise; blk_ext [ix_1 t]

/-- Window 2 holds the feature numbers, a row per step. -/
theorem blk2 (t : Fin cfg0.N) (s : Fin 32) (b : Fin 256) :
    (iblk m c 2 t : Vec Ideal S32x256 .i32) (ix2 s b) = m ((c : Thread nD τ).loc main_arg2) (ix1 (flat s b)) := by
  blk_simp [iblk, ix_2 t]; entry_read; pointwise; blk_ext [ix_2 t]

/-- Window 8 holds the second bias in two rows: the means' half. -/
theorem blk8l (t : Fin cfg0.N) (k : Fin 128) :
    (iblk m c 8 t : Vec Ideal S2x128 .f32) (ix2 0 k) = m ((c : Thread nD τ).loc main_arg9) (ix1 (lo k)) := by
  blk_simp [iblk, ix_8 t]; entry_read; pointwise; blk_ext [ix_8 t]

/-- … and the log-variances' half. -/
theorem blk8h (t : Fin cfg0.N) (k : Fin 128) :
    (iblk m c 8 t : Vec Ideal S2x128 .f32) (ix2 1 k) = m ((c : Thread nD τ).loc main_arg9) (ix1 (hi k)) := by
  blk_simp [iblk, ix_8 t]; entry_read; pointwise; blk_ext [ix_8 t]

/-- Window 13 holds the feature weights, a feature's four rows side by side. -/
theorem blk13 (t : Fin cfg0.N) (f : Fin 128) (i : Fin 4) (j : Fin 64) :
    (iblk m c 13 t : Vec Ideal S128x256 .f32) (ix2 f ⟨64 * i.val + j.val, by omega⟩) = m ((c : Thread nD τ).loc main_arg14) (ix3 f i j) := by
  blk_simp [iblk, ix_13 t]; entry_read; pointwise; blk_ext [ix_13 t]

/-- The windows hold the numbers of the argument arrays. -/
theorem ins (t : Fin cfg0.N) (hg : Good (m ((c : Thread nD τ).loc main_arg2)) (m ((c : Thread nD τ).loc main_arg3))) :
    Ins (args m c) (iblk m c 0 t) (iblk m c 1 t) (iblk m c 2 t) (iblk m c 5 t) (iblk m c 6 t) (iblk m c 7 t) (iblk m c 8 t)
      (iblk m c 9 t) (iblk m c 10 t) (iblk m c 11 t) (iblk m c 12 t) (iblk m c 13 t) (iblk m c 14 t) where
  h0 b j := blk0 m c t _
  xs s b := blk1 m c t s b
  fs s b := (blk2 m c t s b).trans (BitVec.eq_of_toNat_eq (by
    have h := hg.feat (ix1 (flat s b))
    simp only [args, argsOf, BitVec.toNat_ofNat, Nat.mod_eq_of_lt h]
    omega))
  w1 k j := blk5 m c t _
  b1 j := blk6 m c t _
  w2 j k := blk7 m c t _
  b2l k := blk8l m c t k
  b2h k := blk8h m c t k
  wi j k := blk9 m c t _
  wh j k := blk10 m c t _
  bi j := blk11 m c t _
  bh j := blk12 m c t _
  wp f i j := blk13 m c t f i j
  bp f j := blk14 m c t _

end Cert.Final

end
-- ==== Proof.Arrays.lean ====
/- The kernel's three result arrays after its run, as `Cert.Spec` has them. -/
module

public import proofs.«01_k».proof.Proof.Final

@[expose] public section

set_option maxRecDepth 16384

noncomputable section

namespace Cert.Arrays

open Idealize.ShloMosaic Idealize.ShloMosaic.TcCoe Idealize.SL.Sem Cert.KernelIdeal Cert.KernelIdeal.Gen Cert.Spec Cert.Prologue Cert.Inputs Cert.Final

variable (m : (ℓ : Loc nD τ sig) → Buf (Elt Ideal) ℓ) (c : Dev nD)

/-- The first output's buffer after the body: the hidden rows after 32 steps, the others unchanged. -/
theorem block15 (t : Fin cfg0.N) (hg : Good (m ((c : Thread nD τ).loc main_arg2)) (m ((c : Thread nD τ).loc main_arg3)))
    (j : S512x512.Idx) : (outsAt0 m c t).1 j = outH (args m c) (m ((c : Thread nD τ).loc main_arg0)) j := by
  idx_vars j
  unfold outsAt0 outH; dsimp only
  by_cases h : j0.val < 256
  · rw [dif_pos (show ((ix2 j0 j1 : S512x512.Idx) 0).val < 256 from h)]
    exact Outs.out15_hit (x3 := iblk m c 3 t) (x4 := iblk m c 4 t) (I := ins m c t hg) (b := ⟨j0.val, h⟩) (j := j1) ..
  · rw [dif_neg (show ¬ ((ix2 j0 j1 : S512x512.Idx) 0).val < 256 from h)]
    have e : j0 = ⟨256 + (⟨j0.val - 256, by omega⟩ : Fin 256).val, by simp only []; omega⟩ := Fin.ext (by simp only []; omega)
    rw [← blk0 m c t (ix2 j0 j1)]
    rw [e]
    exact Outs.out15_miss (x3 := iblk m c 3 t) (x4 := iblk m c 4 t) (b := ⟨j0.val - 256, by omega⟩) (j := j1) ..

/-- The second output's buffer after the body: the loss. -/
theorem block16 (t : Fin cfg0.N) (hg : Good (m ((c : Thread nD τ).loc main_arg2)) (m ((c : Thread nD τ).loc main_arg3)))
    (j : S1x1.Idx) : (outsAt0 m c t).2.1 j = outL (args m c) j := by
  unfold outsAt0; dsimp only
  exact Outs.out16_eq (x3 := iblk m c 3 t) (x4 := iblk m c 4 t) (I := ins m c t hg) ..

/-- The third output's buffer after the body: the losses before the first step. -/
theorem block17 (t : Fin cfg0.N) (hg : Good (m ((c : Thread nD τ).loc main_arg2)) (m ((c : Thread nD τ).loc main_arg3)))
    (j : S256x128.Idx) : (outsAt0 m c t).2.2 j
      = outP (args m c) (m ((c : Thread nD τ).loc main_arg4)) (m ((c : Thread nD τ).loc main_arg5)) j := by
  idx_vars j
  unfold outsAt0 outP; dsimp only
  rw [← blk3 m c t, ← blk4 m c t]
  exact Outs.out17_eq (x3 := iblk m c 3 t) (x4 := iblk m c 4 t) (I := ins m c t hg) (b := j0) (m := j1) ..

/-- The first result array after the run. -/
theorem final15 (hg : Good (m ((c : Thread nD τ).loc main_arg2)) (m ((c : Thread nD τ).loc main_arg3))) :
    (dats m 0 c).arrAt 15 cfg0.N = outH (args m c) (m ((c : Thread nD τ).loc main_arg0)) := by
  refine (dats m 0 c).arrAt_eq_of_after_last 15 t0_0 (by decide +kernel) _ fun j => ?_
  rw [after0_15]
  refine Eq.trans (b := (outsAt0 m c t0_0).1 (j : S512x512.Idx)) rfl ((block15 m c t0_0 hg j).trans ?_)
  blk_ext [ix_15 t0_0]

/-- The second result array after the run. -/
theorem final16 (hg : Good (m ((c : Thread nD τ).loc main_arg2)) (m ((c : Thread nD τ).loc main_arg3))) :
    (dats m 0 c).arrAt 16 cfg0.N = outL (args m c) := by
  refine (dats m 0 c).arrAt_eq_of_after_last 16 t0_0 (by decide +kernel) _ fun j => ?_
  rw [after0_16]
  refine Eq.trans (b := (outsAt0 m c t0_0).2.1 (j : S1x1.Idx)) rfl ((block16 m c t0_0 hg j).trans ?_)
  blk_ext [ix_16 t0_0]

/-- The third result array after the run. -/
theorem final17 (hg : Good (m ((c : Thread nD τ).loc main_arg2)) (m ((c : Thread nD τ).loc main_arg3))) :
    (dats m 0 c).arrAt 17 cfg0.N = outP (args m c) (m ((c : Thread nD τ).loc main_arg4)) (m ((c : Thread nD τ).loc main_arg5)) := by
  refine (dats m 0 c).arrAt_eq_of_after_last 17 t0_0 (by decide +kernel) _ fun j => ?_
  rw [after0_17]
  refine Eq.trans (b := (outsAt0 m c t0_0).2.2 (j : S256x128.Idx)) rfl ((block17 m c t0_0 hg j).trans ?_)
  blk_ext [ix_17 t0_0]

end Cert.Arrays

end
-- ==== Proof.Picks.lean ====
/- The reference's gathers and its scatter, read at an index. -/
module

public import proofs.«01_k».proof.Proof.Inputs
public import proofs.«01_k».proof.Proof.Gen.ReferenceIdeal.Run
public import Idealize.ShloMosaic.Lib.Routing.Ops
public import Idealize.ShloMosaic.Lib.Routing.OpsSet
public import Idealize.ShloMosaic.Lib.Routing.OpsPair

@[expose] public section

set_option maxRecDepth 16384

noncomputable section

namespace Cert.Picks

open Idealize.ShloMosaic Idealize.SL.Sem Cert.ReferenceIdeal Cert.ReferenceIdeal.Gen Cert.Spec

/-- The place a start word names on an axis of `n` elements, one element taken. -/
abbrev place (n : ℕ) (w : BitVec 32) : ℕ := min w.toInt.toNat (n - 1)

theorem place_ofNat (n : ℕ) (k : Fin n) (hn : n < 2 ^ 31) : place n (BitVec.ofNat 32 k.val) = k.val := by
  have := k.isLt
  unfold place
  rw [StableHlo.Predicate.toInt_ofNat_small _ (by omega)]
  omega

/-- One entry per row of a matrix, at the row and the column that the row's two words name. -/
theorem pair_apply (x : FVec Ideal S256x128 .f32) (idx : IVec S256x2 32) (b : Fin 256) :
    Host.gather gather_S256x128_S256x2_S256_n_01_n_n_01_1_11 x idx (ix1 b)
      = x (ix2 ⟨place 256 (idx (ix2 b 0)), by unfold place; omega⟩ ⟨place 128 (idx (ix2 b 1)), by unfold place; omega⟩) := by
  unfold Host.gather
  refine congrArg x (funext fun a => Fin.ext ?_)
  match a with
  | ⟨0, _⟩ =>
    show GatherDims.start _ _ _ 0 + GatherDims.batchCoord _ _ 0 + GatherDims.offCoord _ _ 0 = _
    have h : GatherDims.siIdx gather_S256x128_S256x2_S256_n_01_n_n_01_1_11 (ix1 b) ⟨0, by decide⟩ = ix2 b 0 := by
      funext q; match q with
      | ⟨0, _⟩ => rfl
      | ⟨1, _⟩ => rfl
    exact Eq.trans (b := place 256 (idx (GatherDims.siIdx gather_S256x128_S256x2_S256_n_01_n_n_01_1_11 (ix1 b) ⟨0, by decide⟩))) rfl
      (congrArg (fun q => place 256 (idx q)) h)
  | ⟨1, _⟩ =>
    show GatherDims.start _ _ _ 1 + GatherDims.batchCoord _ _ 1 + GatherDims.offCoord _ _ 1 = _
    have h : GatherDims.siIdx gather_S256x128_S256x2_S256_n_01_n_n_01_1_11 (ix1 b) ⟨1, by decide⟩ = ix2 b 1 := by
      funext q; match q with
      | ⟨0, _⟩ => rfl
      | ⟨1, _⟩ => rfl
    exact Eq.trans (b := place 128 (idx (GatherDims.siIdx gather_S256x128_S256x2_S256_n_01_n_n_01_1_11 (ix1 b) ⟨1, by decide⟩))) rfl
      (congrArg (fun q => place 128 (idx q)) h)

/-- One 4-by-64 block per row, the one that the row's word names. -/
theorem block_apply (x : FVec Ideal S128x4x64 .f32) (idx : IVec S256x1 32) (b : Fin 256) (i : Fin 4) (j : Fin 64) :
    Host.gather gather_S128x4x64_S256x1_S256x4x64_12_0_n_n_0_1_1464 x idx (ix3 b i j)
      = x (ix3 ⟨place 128 (idx (ix2 b 0)), by unfold place; omega⟩ i j) := by
  unfold Host.gather
  refine congrArg x (funext fun a => Fin.ext ?_)
  match a with
  | ⟨0, _⟩ =>
    show GatherDims.start _ _ _ 0 + GatherDims.batchCoord _ _ 0 + GatherDims.offCoord _ _ 0 = _
    have h : GatherDims.siIdx gather_S128x4x64_S256x1_S256x4x64_12_0_n_n_0_1_1464 (ix3 b i j) ⟨0, by decide⟩ = ix2 b 0 := by
      funext q; match q with
      | ⟨0, _⟩ => rfl
      | ⟨1, _⟩ => rfl
    exact Eq.trans (b := place 128 (idx (GatherDims.siIdx gather_S128x4x64_S256x1_S256x4x64_12_0_n_n_0_1_1464 (ix3 b i j) ⟨0, by decide⟩))) rfl
      (congrArg (fun q => place 128 (idx q)) h)
  | ⟨1, _⟩ =>
    show GatherDims.start _ _ _ 1 + GatherDims.batchCoord _ _ 1 + GatherDims.offCoord _ _ 1 = i.val
    exact (Nat.zero_add _).trans rfl
  | ⟨2, _⟩ =>
    show GatherDims.start _ _ _ 2 + GatherDims.batchCoord _ _ 2 + GatherDims.offCoord _ _ 2 = j.val
    exact (Nat.zero_add _).trans rfl

/-- Where an update of the scatter lands: on the row that the update row's word names, in its own column. -/
theorem lands (idx : IVec S256x1 32) (hidx : ∀ b : Fin 256, idx (ix2 b 0) = BitVec.ofNat 32 b.val) (b : Fin 256) (j : Fin 512)
    (r : Fin 512) (q : Fin 512) :
    scatter_S512x512_S256x1_S256x512_1_0_0_1.resultIdx? (ix2 b j) idx = some (ix2 r q) ↔ b.val = r.val ∧ j = q := by
  refine (Routing.resultIdx?_ix2 (R := 512) (C := 512) scatter_S512x512_S256x1_S256x512_1_0_0_1 (ix2 b j) idx r q).trans ?_
  have h : ScatterDims.siIdx scatter_S512x512_S256x1_S256x512_1_0_0_1 (ix2 b j) ⟨0, by decide⟩ = ix2 b 0 := by
    funext q; match q with
    | ⟨0, _⟩ => rfl
    | ⟨1, _⟩ => rfl
  have h0 : ScatterDims.start scatter_S512x512_S256x1_S256x512_1_0_0_1 (ix2 b j) idx 0 = (b.val : Int) := by
    refine Eq.trans (b := (idx (ScatterDims.siIdx scatter_S512x512_S256x1_S256x512_1_0_0_1 (ix2 b j) ⟨0, by decide⟩)).toInt) rfl ?_
    rw [h, hidx, StableHlo.Predicate.toInt_ofNat_small _ (by omega)]
  have h1 : ScatterDims.start scatter_S512x512_S256x1_S256x512_1_0_0_1 (ix2 b j) idx 1 = 0 := rfl
  have w0 : ScatterDims.window scatter_S512x512_S256x1_S256x512_1_0_0_1 (ix2 b j) 0 = 0 := rfl
  have w1 : ScatterDims.window scatter_S512x512_S256x1_S256x512_1_0_0_1 (ix2 b j) 1 = j.val := rfl
  rw [h0, h1, w0, w1, Fin.ext_iff]
  omega

/-- The scatter of 256 rows onto the first 256: each of those rows becomes the update's. -/
theorem scatter_hit (x : FVec Ideal S512x512 .f32) (idx : IVec S256x1 32) (hidx : ∀ b : Fin 256, idx (ix2 b 0) = BitVec.ofNat 32 b.val)
    (u : FVec Ideal S256x512 .f32) (b : Fin 256) (j : Fin 512) :
    Host.scatter scatter_S512x512_S256x1_S256x512_1_0_0_1 (fun _ b => b) x idx u (ix2 ⟨b.val, by omega⟩ j) = u (ix2 b j) := by
  refine Routing.scatter_set_hit _ x idx u _ _ (fun k hk => ?_) (ix2 b j) ((lands idx hidx _ _ _ _).2 ⟨rfl, rfl⟩)
  idx_vars k
  obtain ⟨h0, h1⟩ := (lands idx hidx _ _ _ _).1 hk
  rw [show k0 = b from Fin.ext h0, h1]

/-- … and every other row stays as it was. -/
theorem scatter_miss (x : FVec Ideal S512x512 .f32) (idx : IVec S256x1 32) (hidx : ∀ b : Fin 256, idx (ix2 b 0) = BitVec.ofNat 32 b.val)
    (u : FVec Ideal S256x512 .f32) (r : Fin 512) (hr : ¬ r.val < 256) (j : Fin 512) :
    Host.scatter scatter_S512x512_S256x1_S256x512_1_0_0_1 (fun _ b => b) x idx u (ix2 r j) = x (ix2 r j) := by
  refine Routing.scatter_set_miss _ x idx u _ fun k hk => ?_
  idx_vars k
  have := ((lands idx hidx _ _ _ _).1 hk).1
  omega

end Cert.Picks

end
-- ==== Proof.Loop.lean ====
/- One trip of the reference's loop, read at an index. -/
module

public import proofs.«01_k».proof.Proof.Picks
public import Idealize.ShloMosaic.Lib.DynamicIndex
public import Idealize.ShloMosaic.Lib.Tactic.CleanTypes
public import Idealize.ShloMosaic.Lib.Pipeline.ValueKit

@[expose] public section

set_option maxRecDepth 16384

noncomputable section

namespace Cert.Loop

open Idealize.ShloMosaic Idealize.SL.Sem Cert.ReferenceIdeal Cert.ReferenceIdeal.Gen Cert.ReferenceIdeal.Value Cert.Spec Cert.Picks

/-- What the buffers that the loop carries hold before trip `n`. -/
structure At (A : Args) (V : Valuation τ sig (Elt Ideal)) (n : ℕ) : Prop where
  xs : ∀ (t : Fin 32) (b : Fin 256), (V (Proc.devRef .tc main_v10_0) : FVec Ideal S32x256 .f32) (ix2 t b) = A.xs t b
  fs : ∀ (t : Fin 32) (b : Fin 256), (V (Proc.devRef .tc main_v10_1) : IVec S32x256 32) (ix2 t b) = BitVec.ofNat 32 (A.fs t b).val
  w1 : ∀ k j : Fin 512, (V (Proc.devRef .tc main_v10_2) : FVec Ideal S512x512 .f32) (ix2 k j) = A.W1 k j
  b1 : ∀ j : Fin 512, (V (Proc.devRef .tc main_v10_3) : FVec Ideal S512 .f32) (ix1 j) = A.b1 j
  w2 : ∀ (j : Fin 512) (c : Fin 256), (V (Proc.devRef .tc main_v10_4) : FVec Ideal S512x256 .f32) (ix2 j c) = A.W2 j c
  b2 : ∀ c : Fin 256, (V (Proc.devRef .tc main_v10_5) : FVec Ideal S256 .f32) (ix1 c) = A.b2 c
  rows : ∀ b : Fin 256, (V (Proc.devRef .tc main_v10_6) : IVec S256 32) (ix1 b) = BitVec.ofNat 32 b.val
  wp : ∀ (f : Fin 128) (i : Fin 4) (j : Fin 64), (V (Proc.devRef .tc main_v10_7) : FVec Ideal S128x4x64 .f32) (ix3 f i j) = A.wp f i j
  bp : ∀ (f : Fin 128) (j : Fin 64), (V (Proc.devRef .tc main_v10_8) : FVec Ideal S128x64 .f32) (ix2 f j) = A.bp f j
  wi : ∀ (j : Fin 1536) (k : Fin 64), (V (Proc.devRef .tc main_v10_9) : FVec Ideal S1536x64 .f32) (ix2 j k) = A.Wih j k
  bi : ∀ j : Fin 1536, (V (Proc.devRef .tc main_v10_10) : FVec Ideal S1536 .f32) (ix1 j) = A.bih j
  wh : ∀ (j : Fin 1536) (k : Fin 512), (V (Proc.devRef .tc main_v10_11) : FVec Ideal S1536x512 .f32) (ix2 j k) = A.Whh j k
  bh : ∀ j : Fin 1536, (V (Proc.devRef .tc main_v10_12) : FVec Ideal S1536 .f32) (ix1 j) = A.bhh j
  idx : ∀ i, (V (Proc.devRef .tc main_v10_14) : IVec S_ 32) i = BitVec.ofNat 32 n
  hid : ∀ (b : Fin 256) (j : Fin 512), (V (Proc.devRef .tc main_v10_15) : FVec Ideal S256x512 .f32) (ix2 b j) = (iter A n).1 b j
  loss : ∀ i, (V (Proc.devRef .tc main_v10_16) : FVec Ideal S_ .f32) i = (iter A n).2

/-- The offsets of row `n` of the 32. -/
abbrev rowOff (n : ℕ) : Fin 2 → ℕ := ![n, 0]

/-- Row `n` of a 32-by-256 array, taken at a start that the index `n` wrapped gives. -/
theorem row_apply {α : Type} (x : S32x256.Idx → α) (i : IVec S_ 32) (n : ℕ) (hn : n < 32) (hi : ∀ q, i q = BitVec.ofNat 32 n) (b : Fin 256) :
    shapeCast S256 (Host.dynamicSlice S1x256 x (fun k => (((![select (cmpi .slt i (constantI S_ 32 0#32)) (addi i (constantI S_ 32 32#32)) i, select (cmpi .slt (constantI S_ 32 0#32) (constantI S_ 32 0#32)) (addi (constantI S_ 32 0#32) (constantI S_ 32 256#32)) (constantI S_ 32 0#32)] : Fin 2 → (⟨S_, .i32⟩ : BufTy).Contents (Elt Ideal))) k (Shape.Idx.first h_S_)).toInt) sliceFits_S32x256_S1x256) shapeCasts_S1x256_S256 (ix1 b)
      = x (ix2 ⟨n, hn⟩ b) := by
  have hs : S32x256.Slices (rowOff n) S1x256 := ⟨rfl, fun a => by
    match a with
    | ⟨0, _⟩ => show n + 1 ≤ 32; omega
    | ⟨1, _⟩ => show 0 + 256 ≤ 256; omega⟩
  rw [Host.dynamicSlice_eq_extractStridedSlice S1x256 x _ (rowOff n) sliceFits_S32x256_S1x256 hs (fun a => by
    match a with
    | ⟨0, _⟩ =>
      show (select (cmpi .slt i (constantI S_ 32 0#32)) (addi i (constantI S_ 32 32#32)) i (Shape.Idx.first h_S_)).toInt = (n : Int)
      have hv : (i (Shape.Idx.first h_S_)).toInt = (n : Int) := by
        rw [hi, StableHlo.Predicate.toInt_ofNat_small _ (by omega)]
      rw [select_slt_zero_of_nonneg i _ _ _ (by rw [hv]; omega), hv]
    | ⟨1, _⟩ => rfl)]
  pointwise

/-- The two layers of the reference, as it spells them: `relu(H W1 + b1) W2 + b2`. -/
abbrev layers (H : FVec Ideal S256x512 .f32) (w1 : FVec Ideal S512x512 .f32) (b1 : FVec Ideal S512 .f32) (w2 : FVec Ideal S512x256 .f32)
    (b2 : FVec Ideal S256 .f32) : FVec Ideal S256x256 .f32 :=
  addf (Host.dotGeneral dot_S256x512_S512x256_S256x256_1_0_0_1_n_n none (maximumf (addf (Host.dotGeneral dot_S256x512_S512x512_S256x512_1_0_0_1_n_n none H w1) (broadcastInDim S256x512 ![0, 1] bcast_S1x512_S256x512_0_1 (broadcastInDim S1x512 ![1] bcast_S512_S1x512_1 b1))) (broadcastInDim S256x512 ![] bcast_S_S256x512 (constant S_ .f32 0x00000000#32))) w2) (broadcastInDim S256x256 ![0, 1] bcast_S1x256_S256x256_0_1 (broadcastInDim S1x256 ![1] bcast_S256_S1x256_1 b2))

/-- They are the parameter columns. -/
theorem layers_eq (A : Args) (K : Hid) (H : FVec Ideal S256x512 .f32) (w1 : FVec Ideal S512x512 .f32) (b1 : FVec Ideal S512 .f32)
    (w2 : FVec Ideal S512x256 .f32) (b2 : FVec Ideal S256 .f32) (hH : ∀ b j, H (ix2 b j) = K b j) (h1 : ∀ k j, w1 (ix2 k j) = A.W1 k j)
    (h2 : ∀ j, b1 (ix1 j) = A.b1 j) (h3 : ∀ j c, w2 (ix2 j c) = A.W2 j c) (h4 : ∀ c, b2 (ix1 c) = A.b2 c) (b c : Fin 256) :
    layers H w1 b1 w2 b2 (ix2 b c) = par A K b c := by
  have e : layers H w1 b1 w2 b2 (ix2 b c)
      = (∑ j : Fin 512, max ((∑ k : Fin 512, H (ix2 b k) * w1 (ix2 k j)) + b1 (ix1 j)) 0 * w2 (ix2 j c)) + b2 (ix1 c) := by
    pointwise [layers]
  rw [e]
  simp only [hH, h1, h2, h3, h4, par, act]

/-- An index as the reference wraps it, `f` itself unless it is negative, in a column. -/
abbrev wrapped (f : IVec S256 32) (k : BitVec 32) : IVec S256x1 32 :=
  broadcastInDim S256x1 ![0] bcast_S256_S256x1_0 (select (cmpi .slt f (broadcastInDim S256 ![] bcast_S_S256 (constantI S_ 32 0#32))) (addi f (broadcastInDim S256 ![] bcast_S_S256 (constantI S_ 32 k))) f)

/-- A small index is not changed by it. -/
theorem wrapped_eq (f : IVec S256 32) (k : BitVec 32) (g : Fin 256 → ℕ) (hg : ∀ b, g b < 2 ^ 31) (hf : ∀ b, f (ix1 b) = BitVec.ofNat 32 (g b))
    (b : Fin 256) : wrapped f k (ix2 b 0) = BitVec.ofNat 32 (g b) := by
  pointwise [wrapped]
  rw [hf]
  exact Routing.wrap_of_lt _ _ (by
    rw [BitVec.toNat_ofNat, Nat.mod_eq_of_lt (by have := hg b; omega)]
    exact hg b)

/-- The rows and the feature numbers side by side. -/
abbrev pairs (r f : IVec S256 32) : IVec S256x2 32 :=
  concatenate S256x2 1 [⟨S256x1, wrapped r 256#32⟩, ⟨S256x1, wrapped f 128#32⟩] concatenates_S256x1_S256x1_S256x2_d1

/-- Every row's entry in its own feature's column. -/
theorem picked (x : FVec Ideal S256x128 .f32) (r f : IVec S256 32) (hr : ∀ b : Fin 256, r (ix1 b) = BitVec.ofNat 32 b.val) (g : Fin 256 → Fin 128)
    (hf : ∀ b, f (ix1 b) = BitVec.ofNat 32 (g b).val) (b : Fin 256) :
    Host.gather gather_S256x128_S256x2_S256_n_01_n_n_01_1_11 x (pairs r f) (ix1 b) = x (ix2 b (g b)) := by
  rw [pair_apply]
  have h0 : pairs r f (ix2 b 0) = BitVec.ofNat 32 b.val :=
    Eq.trans (b := wrapped r 256#32 (ix2 b 0)) (by pointwise [pairs])
      (wrapped_eq r _ (fun b => b.val) (fun b => by omega) hr b)
  have h1 : pairs r f (ix2 b 1) = BitVec.ofNat 32 (g b).val :=
    Eq.trans (b := wrapped f 128#32 (ix2 b 0)) (by pointwise [pairs])
      (wrapped_eq f _ (fun b => (g b).val) (fun b => by omega) hf b)
  congr 1
  refine congrArg₂ ix2 (Fin.ext ?_) (Fin.ext ?_)
  · show place 256 _ = _
    rw [h0, place_ofNat 256 b (by decide)]
  · show place 128 _ = _
    rw [h1, place_ofNat 128 (g b) (by decide)]

/-- Row `g b` of the cell's input biases, for every row `b`. -/
theorem bias_row (x : FVec Ideal S128x64 .f32) (idx : IVec S256x1 32) (b : Fin 256) (j : Fin 64) (g : Fin 128)
    (hi : idx (ix2 b 0) = BitVec.ofNat 32 g.val) :
    Host.gather gather_S128x64_S256x1_S256x64_1_0_n_n_0_1_164 x idx (ix2 b j) = x (ix2 g j) :=
  Routing.gather_row (nb := 128) (B := 64) (n := 256) _ rfl rfl rfl rfl rfl x idx b j g hi (by decide)

/-- Row `g b` of the 512 hidden rows, for every row `b`. -/
theorem hidden_row (x : FVec Ideal S512x512 .f32) (idx : IVec S256x1 32) (b : Fin 256) (j : Fin 512) (g : Fin 512)
    (hi : idx (ix2 b 0) = BitVec.ofNat 32 g.val) :
    Host.gather gather_S512x512_S256x1_S256x512_1_0_n_n_0_1_1512 x idx (ix2 b j) = x (ix2 g j) :=
  Routing.gather_row (nb := 512) (B := 512) (n := 256) _ rfl rfl rfl rfl rfl x idx b j g hi (by decide)

/-- Four numbers of every row side by side. -/
abbrev quad (x m l e : FVec Ideal S256 .f32) : FVec Ideal S256x4 .f32 :=
  concatenate S256x4 1 [⟨S256x1, broadcastInDim S256x1 ![0] bcast_S256_S256x1_0 x⟩, ⟨S256x1, broadcastInDim S256x1 ![0] bcast_S256_S256x1_0 m⟩, ⟨S256x1, broadcastInDim S256x1 ![0] bcast_S256_S256x1_0 l⟩, ⟨S256x1, broadcastInDim S256x1 ![0] bcast_S256_S256x1_0 e⟩] concatenates_S256x1_S256x1_S256x1_S256x1_S256x4_d1

/-- The four columns. -/
theorem quad_eq (x m l e : FVec Ideal S256 .f32) (b : Fin 256) :
    quad x m l e (ix2 b 0) = x (ix1 b) ∧ quad x m l e (ix2 b 1) = m (ix1 b)
      ∧ quad x m l e (ix2 b 2) = l (ix1 b) ∧ quad x m l e (ix2 b 3) = e (ix1 b) := by
  refine ⟨?_, ?_, ?_, ?_⟩ <;> pointwise [quad]

/-- Every row of four numbers against its own four rows of weights. -/
abbrev against (q : FVec Ideal S256x4 .f32) (w : FVec Ideal S256x4x64 .f32) : FVec Ideal S256x64 .f32 :=
  shapeCast S256x64 (Host.dotGeneral dot_S256x1x4_S256x4x64_S256x1x64_2_1_1_2_0_0 none (broadcastInDim S256x1x4 ![0, 2] bcast_S256x4_S256x1x4_0_2 q) w) shapeCasts_S256x1x64_S256x64

/-- The sum of the four products. -/
theorem against_eq (q : FVec Ideal S256x4 .f32) (w : FVec Ideal S256x4x64 .f32) (b : Fin 256) (j : Fin 64) :
    against q w (ix2 b j) = q (ix2 b 0) * w (ix3 b 0 j) + q (ix2 b 1) * w (ix3 b 1 j) + q (ix2 b 2) * w (ix3 b 2 j)
      + q (ix2 b 3) * w (ix3 b 3 j) := by
  have e : against q w (ix2 b j) = ∑ i : Fin 4, q (ix2 b i) * w (ix3 b i j) := by
    pointwise [against]
  rw [e, Fin.sum_univ_four]

/-- The gates from the cell's input, before relu the sum `p + c`. -/
abbrev gates (p c : FVec Ideal S256x64 .f32) (w : FVec Ideal S1536x64 .f32) (b : FVec Ideal S1536 .f32) : FVec Ideal S256x1536 .f32 :=
  addf (Host.dotGeneral dot_S256x64_S64x1536_S256x1536_1_0_0_1_n_n none (maximumf (addf p c) (broadcastInDim S256x64 ![] bcast_S_S256x64 (constant S_ .f32 0x00000000#32))) (transpose S64x1536 [1, 0] w transposes_S1536x64_S64x1536_1_0)) (broadcastInDim S256x1536 ![0, 1] bcast_S1x1536_S256x1536_0_1 (broadcastInDim S1x1536 ![1] bcast_S1536_S1x1536_1 b))

/-- Those gates at a row and a column. -/
theorem gates_eq (p c : FVec Ideal S256x64 .f32) (w : FVec Ideal S1536x64 .f32) (v : FVec Ideal S1536 .f32) (b : Fin 256) (j : Fin 1536) :
    gates p c w v (ix2 b j) = (∑ k : Fin 64, max (p (ix2 b k) + c (ix2 b k)) 0 * w (ix2 j k)) + v (ix1 j) := by
  pointwise [gates]

/-- The loss with a step's share added. -/
abbrev added (l : FVec Ideal S_ .f32) (e v : FVec Ideal S256 .f32) : FVec Ideal S_ .f32 :=
  addf l (mulf (constant S_ .f32 0x3F000000#32) (Host.reduceAdd (addf (mulf e e) v) (constant S_ .f32 0x00000000#32) reducesTo_S256_S_d0 h_S_))

/-- That share is half the sum over the rows. -/
theorem added_eq (l : FVec Ideal S_ .f32) (e v : FVec Ideal S256 .f32) (i : S_.Idx) :
    added l e v i = l i + half * ∑ b : Fin 256, (e (ix1 b) * e (ix1 b) + v (ix1 b)) := by
  pointwise [added]

/-- The logistic function of the sum of two gates from column `o` on, as the reference spells it. -/
abbrev sigm (o : Fin 2 → ℕ) (a c : FVec Ideal S256x1536 .f32) (h : S256x1536.Slices o S256x512) : FVec Ideal S256x512 .f32 :=
  Host.divf (broadcastInDim S256x512 ![] bcast_S_S256x512 (constant S_ .f32 0x3F800000#32)) (addf (broadcastInDim S256x512 ![] bcast_S_S256x512 (constant S_ .f32 0x3F800000#32)) (Host.exp (Host.negf (addf (extractStridedSlice S256x512 o a h) (extractStridedSlice S256x512 o c h)))))

/-- The first third of the gates. -/
theorem sigm_0 (a c : FVec Ideal S256x1536 .f32) (b : Fin 256) (j : Fin 512) :
    sigm ![0, 0] a c slices_S256x1536_S256x512_0_0 (ix2 b j) = Ideal.logistic (a (ix2 b (gate 0 j)) + c (ix2 b (gate 0 j))) := by
  have g : gate 0 j = ⟨j.val, by omega⟩ := Fin.ext (Nat.zero_add _)
  rw [g]
  have e : sigm ![0, 0] a c slices_S256x1536_S256x512_0_0 (ix2 b j)
      = Ideal.div 1 (1 + Ideal.exp (-(a (ix2 b ⟨j.val, by omega⟩) + c (ix2 b ⟨j.val, by omega⟩)))) := by
    pointwise [sigm]
  exact e

/-- The second third of the gates. -/
theorem sigm_512 (a c : FVec Ideal S256x1536 .f32) (b : Fin 256) (j : Fin 512) :
    sigm ![0, 512] a c slices_S256x1536_S256x512_0_512 (ix2 b j) = Ideal.logistic (a (ix2 b (gate 512 j)) + c (ix2 b (gate 512 j))) := by
  have e : sigm ![0, 512] a c slices_S256x1536_S256x512_0_512 (ix2 b j)
      = Ideal.div 1 (1 + Ideal.exp (-(a (ix2 b (gate 512 j)) + c (ix2 b (gate 512 j))))) := by
    pointwise [sigm]
  exact e

/-- The new rows from the gates, the reset and the update gates, and the old rows. -/
abbrev mixed (z r : FVec Ideal S256x512 .f32) (a c : FVec Ideal S256x1536 .f32) (H : FVec Ideal S256x512 .f32) : FVec Ideal S256x512 .f32 :=
  addf (mulf (subf (broadcastInDim S256x512 ![] bcast_S_S256x512 (constant S_ .f32 0x3F800000#32)) z) (Host.tanh (addf (extractStridedSlice S256x512 ![0, 1024] a slices_S256x1536_S256x512_0_1024) (mulf r (extractStridedSlice S256x512 ![0, 1024] c slices_S256x1536_S256x512_0_1024))))) (mulf z H)

/-- Those rows at a row and a column. -/
theorem mixed_eq (z r : FVec Ideal S256x512 .f32) (a c : FVec Ideal S256x1536 .f32) (H : FVec Ideal S256x512 .f32) (b : Fin 256) (j : Fin 512) :
    mixed z r a c H (ix2 b j) = (1 - z (ix2 b j)) * Ideal.tanh (a (ix2 b (gate 1024 j)) + r (ix2 b j) * c (ix2 b (gate 1024 j)))
      + z (ix2 b j) * H (ix2 b j) := by
  pointwise [mixed]

/-- One more. -/
theorem plus_one (x : IVec S_ 32) (i : S_.Idx) : id (addi x (constantI S_ 32 1#32)) i = x i + 1#32 := rfl

variable {A : Args} {V : Valuation τ sig (Elt Ideal)} {n : ℕ} (h : At A V n) (hn : n < 32)

include h

/-- The trip's observations. -/
theorem v56_eq (b : Fin 256) : (res_main_while0b_v56 V : FVec Ideal S256 .f32) (ix1 b) = A.xs ⟨n, hn⟩ b :=
  (row_apply _ _ n hn (fun q => h.idx q) b).trans (h.xs _ _)

/-- The trip's feature numbers. -/
theorem v65_eq (b : Fin 256) : (res_main_while0b_v65 V : IVec S256 32) (ix1 b) = BitVec.ofNat 32 (A.fs ⟨n, hn⟩ b).val :=
  (row_apply _ _ n hn (fun q => h.idx q) b).trans (h.fs _ _)

/-- The parameter columns. -/
theorem v74_eq (b : Fin 256) (c : Fin 256) : (res_main_while0b_v74 V : FVec Ideal S256x256 .f32) (ix2 b c) = par A (iter A n).1 b c :=
  layers_eq A (iter A n).1 _ _ _ _ _ h.hid h.w1 h.b1 h.w2 h.b2 b c

/-- The means. -/
theorem v90_eq (b : Fin 256) : (res_main_while0b_v90 V : FVec Ideal S256 .f32) (ix1 b) = par A (iter A n).1 b (lo (A.fs ⟨n, hn⟩ b)) := by
  refine (picked _ _ _ h.rows (fun b => A.fs ⟨n, hn⟩ b) (v65_eq h hn) b).trans ?_
  pointwise
  exact v74_eq h b _

/-- The log-variances. -/
theorem v104_eq (b : Fin 256) : (res_main_while0b_v104 V : FVec Ideal S256 .f32) (ix1 b) = par A (iter A n).1 b (hi (A.fs ⟨n, hn⟩ b)) := by
  refine (picked _ _ _ h.rows (fun b => A.fs ⟨n, hn⟩ b) (v65_eq h hn) b).trans ?_
  pointwise
  exact v74_eq h b _

/-- The errors. -/
theorem v109_eq (b : Fin 256) : (res_main_while0b_v109 V : FVec Ideal S256 .f32) (ix1 b) = errT A (iter A n).1 ⟨n, hn⟩ b := by
  unfold res_main_while0b_v109
  clean_types
  pointwise
  rw [v56_eq h hn, v90_eq h hn, v104_eq h hn]
  rfl

/-- The gates from the hidden rows. -/
theorem v148_eq (b : Fin 256) (j : Fin 1536) : (res_main_while0b_v148 V : FVec Ideal S256x1536 .f32) (ix2 b j) = gh A (iter A n).1 b j := by
  unfold res_main_while0b_v148
  clean_types
  pointwise
  simp only [h.hid, h.wh, h.bh, gh]

/-- The gates from the cell's input. -/
theorem v143_eq (b : Fin 256) (j : Fin 1536) : (res_main_while0b_v143 V : FVec Ideal S256x1536 .f32) (ix2 b j) = gi A (iter A n).1 ⟨n, hn⟩ b j := by
  refine (gates_eq _ _ _ _ b j).trans ?_
  have hf : wrapped (res_main_while0b_v65 V) 128#32 (ix2 b 0) = BitVec.ofNat 32 (A.fs ⟨n, hn⟩ b).val :=
    wrapped_eq _ _ (fun b => (A.fs ⟨n, hn⟩ b).val) (fun b => by omega) (v65_eq h hn) b
  have hb (i : Fin 4) (k : Fin 64) :
      Host.gather gather_S128x4x64_S256x1_S256x4x64_12_0_n_n_0_1_1464 (V (Proc.devRef .tc main_v10_7) : FVec Ideal S128x4x64 .f32)
        (wrapped (res_main_while0b_v65 V) 128#32) (ix3 b i k) = A.wp (A.fs ⟨n, hn⟩ b) i k := by
    rw [block_apply, ← h.wp]
    congr 1
    refine congrArg (fun q => ix3 q i k) (Fin.ext ?_)
    show place 128 _ = _
    rw [hf, place_ofNat 128 _ (by decide)]
  have hk (k : Fin 64) := (against_eq (quad (res_main_while0b_v56 V) (res_main_while0b_v90 V) (res_main_while0b_v104 V) (res_main_while0b_v109 V))
    (Host.gather gather_S128x4x64_S256x1_S256x4x64_12_0_n_n_0_1_1464 (V (Proc.devRef .tc main_v10_7) : FVec Ideal S128x4x64 .f32)
        (wrapped (res_main_while0b_v65 V) 128#32)) b k)
  obtain ⟨q0, q1, q2, q3⟩ := quad_eq (res_main_while0b_v56 V) (res_main_while0b_v90 V) (res_main_while0b_v104 V) (res_main_while0b_v109 V) b
  simp only [hb, q0, q1, q2, q3, v56_eq h hn, v90_eq h hn, v104_eq h hn, v109_eq h hn] at hk
  refine congrArg₂ (· + ·) (Finset.sum_congr rfl fun k _ => congrArg₂ (fun p q => max p 0 * q) (congrArg₂ (· + ·) (hk k) ?_) (h.wi j k)) (h.bi j)
  exact (bias_row _ _ b k _ hf).trans (h.bp _ k)

/-- The update gate. -/
theorem v168_eq (b : Fin 256) (j : Fin 512) : (res_main_while0b_v168 V : FVec Ideal S256x512 .f32) (ix2 b j) = zz A (iter A n).1 ⟨n, hn⟩ b j := by
  refine (sigm_512 _ _ b j).trans ?_
  rw [v143_eq h hn, v148_eq h]
  rfl

include hn in
/-- The hidden rows after the trip. -/
theorem v15_eq (b : Fin 256) (j : Fin 512) : (step_main_v10_15 V : FVec Ideal S256x512 .f32) (ix2 b j) = (iter A (n + 1)).1 b j := by
  refine (mixed_eq (res_main_while0b_v168 V) (sigm ![0, 0] (res_main_while0b_v143 V) (res_main_while0b_v148 V) slices_S256x1536_S256x512_0_0)
    (res_main_while0b_v143 V) (res_main_while0b_v148 V) (V (Proc.devRef .tc main_v10_15)) b j).trans ?_
  rw [sigm_0, v168_eq h hn, v143_eq h hn, v143_eq h hn, v148_eq h, v148_eq h, h.hid, iter_succ A n hn]
  rfl

/-- The index of the next trip. -/
theorem v14_eq (i : S_.Idx) : (step_main_v10_14 V : IVec S_ 32) i = BitVec.ofNat 32 (n + 1) := by
  refine (plus_one (V (Proc.devRef .tc main_v10_14)) i).trans ?_
  rw [h.idx]
  exact (BitVec.ofNat_add ..).symm

include hn in
/-- The loss after the trip. -/
theorem v16_eq (i : S_.Idx) : (step_main_v10_16 V : FVec Ideal S_ .f32) i = (iter A (n + 1)).2 := by
  refine (added_eq (V (Proc.devRef .tc main_v10_16)) (res_main_while0b_v109 V) (res_main_while0b_v104 V) i).trans ?_
  simp only [v109_eq h hn, v104_eq h hn]
  rw [h.loss, iter_succ A n hn]
  rfl

include hn in
/-- One trip takes the buffers before step `n` to the buffers before step `n + 1`. -/
theorem at_step : At A (STEP V) (n + 1) := by
  refine ⟨?_, ?_, ?_, ?_, ?_, ?_, ?_, ?_, ?_, ?_, ?_, ?_, ?_, ?_, ?_, ?_⟩
  · rw [STEP_main_v10_0]; exact h.xs
  · rw [STEP_main_v10_1]; exact h.fs
  · rw [STEP_main_v10_2]; exact h.w1
  · rw [STEP_main_v10_3]; exact h.b1
  · rw [STEP_main_v10_4]; exact h.w2
  · rw [STEP_main_v10_5]; exact h.b2
  · rw [STEP_main_v10_6]; exact h.rows
  · rw [STEP_main_v10_7]; exact h.wp
  · rw [STEP_main_v10_8]; exact h.bp
  · rw [STEP_main_v10_9]; exact h.wi
  · rw [STEP_main_v10_10]; exact h.bi
  · rw [STEP_main_v10_11]; exact h.wh
  · rw [STEP_main_v10_12]; exact h.bh
  · rw [STEP_main_v10_14]; exact v14_eq h
  · rw [STEP_main_v10_15]; exact v15_eq h hn
  · rw [STEP_main_v10_16]; exact v16_eq h hn

omit h hn in
/-- Before any step up to the last, from before the first. -/
theorem at_iter {W : Valuation τ sig (Elt Ideal)} (h0 : At A W 0) : ∀ k, k ≤ 32 → At A (STEP^[k] W) k
  | 0, _ => h0
  | k + 1, hk => by
    rw [Function.iterate_succ_apply']
    exact at_step (at_iter h0 k (by omega)) (by omega)

end Cert.Loop
-- ==== Proof.Results.lean ====
/- What the reference's results are: the 32 trips from the entry, and the operations after the loop. -/
module

public import proofs.«01_k».proof.Proof.Loop
public import proofs.«01_k».proof.Proof.Inputs

@[expose] public section

set_option maxRecDepth 16384

noncomputable section

namespace Cert.Results

open Idealize.ShloMosaic Idealize.ShloMosaic.TcCoe Idealize.ShloMosaic.StableHlo Idealize.SL.Sem Cert.ReferenceIdeal Cert.ReferenceIdeal.Gen Cert.ReferenceIdeal.Value Cert.Spec Cert.Picks Cert.Loop Cert.Inputs

variable (m : (ℓ : Loc nD τ sig) → Buf (Elt Ideal) ℓ) (c : Dev nD)

/-- The argument arrays in the reference's memory, as numbers. -/
abbrev args : Args :=
  argsOf (m ((c.tc : Thread nD τ).loc main_arg0)) (m ((c.tc : Thread nD τ).loc main_arg1)) (m ((c.tc : Thread nD τ).loc main_arg2))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15))

/-- The first 256 rows of the hidden array, as the row numbers in order pick them. -/
theorem start_eq (x : FVec Ideal S512x512 .f32) (r : IVec S256 32) (hr : ∀ k, r k = BitVec.ofNat 32 (k 0).val) (b : Fin 256) (j : Fin 512) :
    Host.gather gather_S512x512_S256x1_S256x512_1_0_n_n_0_1_1512 x (wrapped r 512#32) (ix2 b j) = x (ix2 ⟨b.val, by omega⟩ j) :=
  hidden_row x _ b j ⟨b.val, by omega⟩ (wrapped_eq r _ (fun b => b.val) (fun b => by omega) (fun b => hr (ix1 b)) b)

/-- The observations, a row per step. -/
theorem steps_eq {α : Type} (x : S8192.Idx → α) (t : Fin 32) (b : Fin 256) :
    shapeCast S32x256 x shapeCasts_S8192_S32x256 (ix2 t b) = x (ix1 (flat t b)) := by
  pointwise
  exact congrArg (fun q => x (ix1 q)) (Fin.ext (by show t.val * 256 + b.val = 256 * t.val + b.val; omega))

/-- Before the first step. -/
theorem at_zero (hg : Good (m ((c.tc : Thread nD τ).loc main_arg2)) (m ((c.tc : Thread nD τ).loc main_arg3))) :
    At (args m c) (entryContents preI m c) 0 := by
  refine ⟨?_, ?_, ?_, ?_, ?_, ?_, ?_, ?_, ?_, ?_, ?_, ?_, ?_, ?_, ?_, ?_⟩
  · intro t b
    simp only [entryContents, afterL_cons, afterL_nil]
    entry_read
    exact steps_eq _ t b
  · intro t b
    simp only [entryContents, afterL_cons, afterL_nil]
    entry_read
    refine (steps_eq _ t b).trans ?_
    show _ = BitVec.ofNat 32 ((_ : BitVec 32).toNat % 128)
    rw [Nat.mod_eq_of_lt (hg.feat _), BitVec.ofNat_toNat, BitVec.setWidth_eq]
  · intro k j
    simp only [entryContents, afterL_cons, afterL_nil]
    entry_read
    rfl
  · intro j
    simp only [entryContents, afterL_cons, afterL_nil]
    entry_read
    rfl
  · intro j k
    simp only [entryContents, afterL_cons, afterL_nil]
    entry_read
    rfl
  · intro k
    simp only [entryContents, afterL_cons, afterL_nil]
    entry_read
    rfl
  · intro b
    simp only [entryContents, afterL_cons, afterL_nil]
    entry_read
    rfl
  · intro f i j
    simp only [entryContents, afterL_cons, afterL_nil]
    entry_read
    rfl
  · intro f j
    simp only [entryContents, afterL_cons, afterL_nil]
    entry_read
    rfl
  · intro j k
    simp only [entryContents, afterL_cons, afterL_nil]
    entry_read
    rfl
  · intro j
    simp only [entryContents, afterL_cons, afterL_nil]
    entry_read
    rfl
  · intro j k
    simp only [entryContents, afterL_cons, afterL_nil]
    entry_read
    rfl
  · intro j
    simp only [entryContents, afterL_cons, afterL_nil]
    entry_read
    rfl
  · intro i
    simp only [entryContents, afterL_cons, afterL_nil]
    entry_read
    rfl
  · intro b j
    simp only [entryContents, afterL_cons, afterL_nil]
    entry_read
    exact start_eq _ _ hg.rows b j
  · intro i
    simp only [entryContents, afterL_cons, afterL_nil]
    entry_read
    exact Ideal.ofBits_zero .f32

/-- The losses before the first step, of the observations `x`, their weights `w` and the parameter columns `L`, as the reference spells them. -/
abbrev losses (x w : FVec Ideal S256x128 .f32) (L : FVec Ideal S256x256 .f32) : FVec Ideal S256x128 .f32 :=
  mulf (broadcastInDim S256x128 ![] bcast_S_S256x128 (constant S_ .f32 0x3F000000#32)) (mulf (addf (mulf (Host.divf (subf x (extractStridedSlice S256x128 ![0, 0] L slices_S256x256_S256x128_0_0)) (Host.exp (mulf (broadcastInDim S256x128 ![] bcast_S_S256x128 (constant S_ .f32 0x3F000000#32)) (extractStridedSlice S256x128 ![0, 128] L slices_S256x256_S256x128_0_128)))) (Host.divf (subf x (extractStridedSlice S256x128 ![0, 0] L slices_S256x256_S256x128_0_0)) (Host.exp (mulf (broadcastInDim S256x128 ![] bcast_S_S256x128 (constant S_ .f32 0x3F000000#32)) (extractStridedSlice S256x128 ![0, 128] L slices_S256x256_S256x128_0_128))))) (extractStridedSlice S256x128 ![0, 128] L slices_S256x256_S256x128_0_128)) w)

/-- Those losses at a row and a column. -/
theorem losses_eq (x w : FVec Ideal S256x128 .f32) (L : FVec Ideal S256x256 .f32) (b : Fin 256) (k : Fin 128) :
    losses x w L (ix2 b k) = half * ((err (x (ix2 b k)) (L (ix2 b (lo k))) (L (ix2 b (hi k))) * err (x (ix2 b k)) (L (ix2 b (lo k))) (L (ix2 b (hi k)))
      + L (ix2 b (hi k))) * w (ix2 b k)) := by
  unfold err
  pointwise [losses]

/-- The rows `u` put back in place of the first 256 rows of `x` are the first result, where `u` holds the rows after 32 steps. -/
theorem outH_of (A : Args) (x : FVec Ideal S512x512 .f32) (r : IVec S256 32) (hr : ∀ k, r k = BitVec.ofNat 32 (k 0).val)
    (u : FVec Ideal S256x512 .f32) (hu : ∀ b j, u (ix2 b j) = (iter A 32).1 b j) :
    Host.scatter scatter_S512x512_S256x1_S256x512_1_0_0_1 (fun _ b => b) x (wrapped r 512#32) u = outH A x := by
  have hw (b : Fin 256) : wrapped r 512#32 (ix2 b 0) = BitVec.ofNat 32 b.val :=
    wrapped_eq _ _ (fun b => b.val) (fun b => by omega) (fun b => hr (ix1 b)) b
  funext i
  obtain ⟨q, j, rfl⟩ : ∃ (q j : Fin 512), i = ix2 q j := ⟨i 0, i 1, (ix2_eta i).symm⟩
  by_cases hq : q.val < 256
  · refine ((scatter_hit x _ hw u ⟨q.val, hq⟩ j).trans (hu _ _)).trans ?_
    unfold outH
    rw [dif_pos (show ((ix2 q j : S512x512.Idx) 0).val < 256 from hq)]
    rfl
  · refine (scatter_miss x _ hw u q hq j).trans ?_
    unfold outH
    rw [dif_neg (show ¬ ((ix2 q j : S512x512.Idx) 0).val < 256 from hq)]

/-- The losses before the first step are the third result, where `L` holds the parameter columns of the starting rows. -/
theorem outP_of (A : Args) (x w : FVec Ideal S256x128 .f32) (L : FVec Ideal S256x256 .f32) (hL : ∀ b k, L (ix2 b k) = par A A.h0 b k) :
    losses x w L = outP A x w := by
  funext i
  obtain ⟨b, k, rfl⟩ : ∃ (b : Fin 256) (k : Fin 128), i = ix2 b k := ⟨i 0, i 1, (ix2_eta i).symm⟩
  rw [losses_eq, hL, hL]
  rfl

variable (hg : Good (m ((c.tc : Thread nD τ).loc main_arg2)) (m ((c.tc : Thread nD τ).loc main_arg3)))
include hg

/-- The hidden rows that the reference returns. -/
theorem hidden_eq : out_main_v17 (STEP^[32] (entryContents preI m c)) = outH (args m c) (m ((c.tc : Thread nD τ).loc main_arg0)) := by
  have h := at_iter (at_zero m c hg) 32 (le_refl _)
  unfold out_main_v17
  rw [iter_main_arg0, iter_main_arg3]
  exact outH_of _ _ _ hg.rows _ h.hid

/-- The loss that the reference returns. -/
theorem loss_eq : out_main_v46 (STEP^[32] (entryContents preI m c)) = outL (args m c) := by
  have h := at_iter (at_zero m c hg) 32 (le_refl _)
  funext i
  exact h.loss _

/-- The first losses that the reference returns. -/
theorem pre_eq : out_main_v45 (STEP^[32] (entryContents preI m c))
    = outP (args m c) (m ((c.tc : Thread nD τ).loc main_arg4)) (m ((c.tc : Thread nD τ).loc main_arg5)) := by
  unfold out_main_v45
  rw [iter_main_arg0, iter_main_arg3, iter_main_arg4, iter_main_arg5, iter_main_arg6, iter_main_arg7, iter_main_arg8, iter_main_arg9]
  exact outP_of _ _ _ _ (layers_eq (args m c) (args m c).h0
    (Host.gather gather_S512x512_S256x1_S256x512_1_0_n_n_0_1_1512 (m ((c.tc : Thread nD τ).loc main_arg0)) (wrapped (m ((c.tc : Thread nD τ).loc main_arg3)) 512#32))
    (m ((c.tc : Thread nD τ).loc main_arg6)) (m ((c.tc : Thread nD τ).loc main_arg7)) (m ((c.tc : Thread nD τ).loc main_arg8))
    (m ((c.tc : Thread nD τ).loc main_arg9)) (fun b j => start_eq _ _ hg.rows b j) (fun _ _ => rfl) (fun _ => rfl) (fun _ _ => rfl) (fun _ => rfl))

end Cert.Results

end
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pre
public import proofs.«01_k».proof.Proof.Arrays
public import proofs.«01_k».proof.Proof.Results
public import Idealize.ShloMosaic.Adequacy
public import Idealize.ShloMosaic.Init

@[expose] public section

noncomputable section

namespace Cert.Proof

open Idealize.ShloMosaic Idealize.SL.Sem Cert.Kernel

/-- The kernel and the reference return equal arrays: both what `Cert.Inputs` says of the arguments. -/
theorem equal : Cert.algebraic_KernelIdeal_ReferenceIdeal_pre_pre (hKernelIdeal := Cert.KernelIdeal.Gen.facts)
    (hReferenceIdeal := Cert.ReferenceIdeal.Gen.facts) (hPre_pre := Cert.Pre_pre.Gen.facts) := by
  intro m g m' g' hpre hagree
  have hg (c : Dev Cert.KernelIdeal.nD) := Cert.Inputs.good_of_fn _ _ _ _ _ _ _ _ _ _ _ _ _ _ _ _ (hpre c)
  refine ⟨fun c => Cert.Inputs.outH (Cert.Final.args m c) (m ((c.tc : Thread Cert.KernelIdeal.nD Cert.KernelIdeal.τ).loc Cert.KernelIdeal.main_arg0)),
    fun c => Cert.Inputs.outL (Cert.Final.args m c),
    fun c => Cert.Inputs.outP (Cert.Final.args m c) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r hr c => ?_) (Cert.KernelIdeal.Value.run_blocks m g)
    obtain ⟨r0, r1, r2, rest⟩ := hr c
    exact ⟨r0.trans (Cert.Arrays.final15 m c (hg c)), r1.trans (Cert.Arrays.final16 m c (hg c)), r2.trans (Cert.Arrays.final17 m c (hg c)), rest⟩
  · refine (θ_run Cert.ReferenceIdeal.defs _ _).mono (fun r hr c => ?_) (Cert.ReferenceIdeal.Value.run m' g')
    obtain ⟨e0, e1, e2, e3, e4, e5, e6, e7, e8, e9, e10, e11, e12, e13, e14, e15⟩ := hagree c
    have hA : Cert.Results.args m' c = Cert.Final.args m c := by
      unfold Cert.Results.args Cert.Final.args
      rw [e0, e1, e2, e6, e7, e8, e9, e10, e11, e12, e13, e14, e15]
    have hg' : Cert.Inputs.Good (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) := by
      rw [e2, e3]; exact hg c
    obtain ⟨r0, r1, r2, rest⟩ := hr c
    refine ⟨r0.trans ?_, r1.trans ?_, r2.trans ?_, rest⟩
    · rw [Cert.Results.hidden_eq m' c hg', hA, e0]
    · rw [Cert.Results.loss_eq m' c hg', hA]
    · rw [Cert.Results.pre_eq m' c hg', hA, e4, e5]

/-- The reference ends with its arguments as they were, and it declares no semaphore. -/
theorem reference_ends : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run m ρ)

/-- Every claim of the certificate. -/
theorem claim : Cert.Claim := ⟨Cert.Kernel.Gen.facts, Cert.KernelIdeal.Gen.facts, Cert.ReferenceIdeal.Gen.facts, Cert.Pre_pre.Gen.facts,
  fun m ρ _ => Cert.Kernel.Gen.frame m ρ, fun m ρ _ => Cert.KernelIdeal.Gen.frame m ρ, fun m ρ _ => Cert.KernelIdeal.Gen.frame m ρ,
  reference_ends, fun m ρ _ => reference_ends m ρ trivial, trivial, equal⟩

end Cert.Proof

end
